-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseIdeal_finite_logits [hPre_finite_logits : Cert.Pre_finite_logits.Facts] (m : (ℓ : Loc Cert.DenseIdeal.nD Cert.DenseIdeal.τ Cert.DenseIdeal.sig) → Buf (Elt Ideal) ℓ) : Prop :=
  ∀ c : Dev Cert.DenseIdeal.nD,
    (Cert.Pre_finite_logits.fn (F := Ideal) (m ((c.tc : Thread Cert.DenseIdeal.nD Cert.DenseIdeal.τ).loc Cert.DenseIdeal.main_arg0)) (m ((c.tc : Thread Cert.DenseIdeal.nD Cert.DenseIdeal.τ).loc Cert.DenseIdeal.main_arg1)) (m ((c.tc : Thread Cert.DenseIdeal.nD Cert.DenseIdeal.τ).loc Cert.DenseIdeal.main_arg2))) = (fun _ => 1#1)

def Pre_SoftmaxIdeal (m : (ℓ : Loc Cert.SoftmaxIdeal.nD Cert.SoftmaxIdeal.τ Cert.SoftmaxIdeal.sig) → Buf (Elt Ideal) ℓ) : Prop :=
  True

def Pre_SoftmaxIdeal_finite_logits [hPre_finite_logits : Cert.Pre_finite_logits.Facts] (m : (ℓ : Loc Cert.SoftmaxIdeal.nD Cert.SoftmaxIdeal.τ Cert.SoftmaxIdeal.sig) → Buf (Elt Ideal) ℓ) : Prop :=
  ∀ c : Dev Cert.SoftmaxIdeal.nD,
    (Cert.Pre_finite_logits.fn (F := Ideal) (m ((c.tc : Thread Cert.SoftmaxIdeal.nD Cert.SoftmaxIdeal.τ).loc Cert.SoftmaxIdeal.main_arg0)) (m ((c.tc : Thread Cert.SoftmaxIdeal.nD Cert.SoftmaxIdeal.τ).loc Cert.SoftmaxIdeal.main_arg1)) (m ((c.tc : Thread Cert.SoftmaxIdeal.nD Cert.SoftmaxIdeal.τ).loc Cert.SoftmaxIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_DenseIdeal_pre_finite_logits [hDenseIdeal : Cert.DenseIdeal.Facts] [hPre_finite_logits : Cert.Pre_finite_logits.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal_finite_logits m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ r.2.sem = fun _ => 0)

def quiescent_SoftmaxIdeal [hSoftmaxIdeal : Cert.SoftmaxIdeal.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
      ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1)
      ∧ r.2.mem ((c.tc : Thread Cert.SoftmaxIdeal.nD Cert.SoftmaxIdeal.τ).loc Cert.SoftmaxIdeal.main_arg2) = m ((c.tc : Thread Cert.SoftmaxIdeal.nD Cert.SoftmaxIdeal.τ).loc Cert.SoftmaxIdeal.main_arg2))
      ∧ r.2.sem = fun _ => 0)

def quiescent_SoftmaxIdeal_pre_finite_logits [hSoftmaxIdeal : Cert.SoftmaxIdeal.Facts] [hPre_finite_logits : Cert.Pre_finite_logits.Facts] : Prop :=
  ∀ (m : (ℓ : Loc Cert.SoftmaxIdeal.nD Cert.SoftmaxIdeal.τ Cert.SoftmaxIdeal.sig) → Buf (Elt Ideal) ℓ) (g : Dev Cert.SoftmaxIdeal.nD → PrngReg), Pre_SoftmaxIdeal_finite_logits m →
    θ_run (Cert.SoftmaxIdeal.defs (F := Ideal)) (onTc (τ := Cert.SoftmaxIdeal.τ) (Cert.SoftmaxIdeal.main (F := Ideal))) ⟨m, fun _ => 0, g⟩ (fun r => (∀ c : Dev Cert.SoftmaxIdeal.nD,
      r.2.mem ((c.tc : Thread Cert.SoftmaxIdeal.nD Cert.SoftmaxIdeal.τ).loc Cert.SoftmaxIdeal.main_arg0) = m ((c.tc : Thread Cert.SoftmaxIdeal.nD Cert.SoftmaxIdeal.τ).loc Cert.SoftmaxIdeal.main_arg0)
      ∧ r.2.mem ((c.tc : Thread Cert.SoftmaxIdeal.nD Cert.SoftmaxIdeal.τ).loc Cert.SoftmaxIdeal.main_arg1) = m ((c.tc : Thread Cert.SoftmaxIdeal.nD Cert.SoftmaxIdeal.τ).loc Cert.SoftmaxIdeal.main_arg1)
      ∧ r.2.mem ((c.tc : Thread Cert.SoftmaxIdeal.nD Cert.SoftmaxIdeal.τ).loc Cert.SoftmaxIdeal.main_arg2) = m ((c.tc : Thread Cert.SoftmaxIdeal.nD Cert.SoftmaxIdeal.τ).loc Cert.SoftmaxIdeal.main_arg2))
      ∧ r.2.sem = fun _ => 0)

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v18)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v18) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0))

def preserves_Dense_DenseIdeal : Prop :=
  True

def algebraic_DenseIdeal_SoftmaxIdeal_pre_finite_logits [hDenseIdeal : Cert.DenseIdeal.Facts] [hSoftmaxIdeal : Cert.SoftmaxIdeal.Facts] [hPre_finite_logits : Cert.Pre_finite_logits.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.SoftmaxIdeal.nD Cert.SoftmaxIdeal.τ Cert.SoftmaxIdeal.sig) → Buf (Elt Ideal) ℓ) (g' : Dev Cert.SoftmaxIdeal.nD → PrngReg), Pre_DenseIdeal_finite_logits m →
    (∀ c : Dev Cert.DenseIdeal.nD,
      m' ((c.tc : Thread Cert.SoftmaxIdeal.nD Cert.SoftmaxIdeal.τ).loc Cert.SoftmaxIdeal.main_arg0) = m ((c.tc : Thread Cert.DenseIdeal.nD Cert.DenseIdeal.τ).loc Cert.DenseIdeal.main_arg0)
      ∧ m' ((c.tc : Thread Cert.SoftmaxIdeal.nD Cert.SoftmaxIdeal.τ).loc Cert.SoftmaxIdeal.main_arg1) = m ((c.tc : Thread Cert.DenseIdeal.nD Cert.DenseIdeal.τ).loc Cert.DenseIdeal.main_arg1)
      ∧ m' ((c.tc : Thread Cert.SoftmaxIdeal.nD Cert.SoftmaxIdeal.τ).loc Cert.SoftmaxIdeal.main_arg2) = m ((c.tc : Thread Cert.DenseIdeal.nD Cert.DenseIdeal.τ).loc Cert.DenseIdeal.main_arg2)) →
    ∃ (v0 : (c : Dev Cert.DenseIdeal.nD) → Buf (Elt Ideal) ((c.tc : Thread Cert.DenseIdeal.nD Cert.DenseIdeal.τ).loc Cert.DenseIdeal.main_v12)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v12) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2))
      ∧ θ_run (Cert.SoftmaxIdeal.defs (F := Ideal)) (onTc (τ := Cert.SoftmaxIdeal.τ) (Cert.SoftmaxIdeal.main (F := Ideal))) ⟨m', fun _ => 0, g'⟩ (fun r => ∀ c : Dev Cert.SoftmaxIdeal.nD,
          r.2.mem ((c.tc : Thread Cert.SoftmaxIdeal.nD Cert.SoftmaxIdeal.τ).loc Cert.SoftmaxIdeal.main_v34) = v0 c
          ∧ r.2.mem ((c.tc : Thread Cert.SoftmaxIdeal.nD Cert.SoftmaxIdeal.τ).loc Cert.SoftmaxIdeal.main_arg0) = m' ((c.tc : Thread Cert.SoftmaxIdeal.nD Cert.SoftmaxIdeal.τ).loc Cert.SoftmaxIdeal.main_arg0)
          ∧ r.2.mem ((c.tc : Thread Cert.SoftmaxIdeal.nD Cert.SoftmaxIdeal.τ).loc Cert.SoftmaxIdeal.main_arg1) = m' ((c.tc : Thread Cert.SoftmaxIdeal.nD Cert.SoftmaxIdeal.τ).loc Cert.SoftmaxIdeal.main_arg1)
          ∧ r.2.mem ((c.tc : Thread Cert.SoftmaxIdeal.nD Cert.SoftmaxIdeal.τ).loc Cert.SoftmaxIdeal.main_arg2) = m' ((c.tc : Thread Cert.SoftmaxIdeal.nD Cert.SoftmaxIdeal.τ).loc Cert.SoftmaxIdeal.main_arg2))

def Claim : Prop :=
  ∃ (hKernel : Cert.Kernel.Facts) (hReference : Cert.Reference.Facts) (hDense : Cert.Dense.Facts) (hDenseIdeal : Cert.DenseIdeal.Facts) (hSoftmaxIdeal : Cert.SoftmaxIdeal.Facts) (hPre_finite_logits : Cert.Pre_finite_logits.Facts),
    quiescent_Kernel (hKernel := hKernel)
    ∧ quiescent_Reference (hReference := hReference)
    ∧ quiescent_Dense (hDense := hDense)
    ∧ quiescent_DenseIdeal (hDenseIdeal := hDenseIdeal)
    ∧ quiescent_DenseIdeal_pre_finite_logits (hDenseIdeal := hDenseIdeal) (hPre_finite_logits := hPre_finite_logits)
    ∧ quiescent_SoftmaxIdeal (hSoftmaxIdeal := hSoftmaxIdeal)
    ∧ quiescent_SoftmaxIdeal_pre_finite_logits (hSoftmaxIdeal := hSoftmaxIdeal) (hPre_finite_logits := hPre_finite_logits)
    ∧ bitexact_Kernel_Reference (hKernel := hKernel) (hReference := hReference)
    ∧ preserves_Dense_DenseIdeal
    ∧ algebraic_DenseIdeal_SoftmaxIdeal_pre_finite_logits (hDenseIdeal := hDenseIdeal) (hSoftmaxIdeal := hSoftmaxIdeal) (hPre_finite_logits := hPre_finite_logits)
-- ==== Pre_finite_logits.lean ====
abbrev S32x1000000 : Shape := ⟨2, ![32, 1000000]⟩
abbrev S32x16 : Shape := ⟨2, ![32, 16]⟩
abbrev S_ : Shape := ⟨0, ![]⟩

class Facts : Prop where
  bcast_S_S32x1000000 : S_.BroadcastsInDim S32x1000000 (![] : Fin 0 → Fin S32x1000000.rank)

variable [Facts]

def fn {F : FTy → Type} [FloatOps F] (main_arg0 : FVec F S32x1000000 .f32) (main_arg1 : FVec F S32x1000000 .f32) (main_arg2 : FVec F S32x16 .f32) : IVec S32x1000000 1 :=
  let main_v0 : FVec F S32x1000000 .f32 := Host.absf main_arg0
  let main_cst : FVec F S_ .f32 := constant S_ .f32 0x7F800000#32
  let main_v1 : FVec F S32x1000000 .f32 := broadcastInDim S32x1000000 ![] bcast_S_S32x1000000 main_cst
  let main_v2 : IVec S32x1000000 1 := cmpf .olt main_v0 main_v1
  main_v2
-- ==== Kernel.lean ====
abbrev S32x1000000 : Shape := ⟨2, ![32, 1000000]⟩
abbrev S_ : Shape := ⟨0, ![]⟩
abbrev S32x6250x160 : Shape := ⟨3, ![32, 6250, 160]⟩
abbrev S32x6250 : Shape := ⟨2, ![32, 6250]⟩
abbrev S32x6256 : Shape := ⟨2, ![32, 6256]⟩
abbrev S200000x160 : Shape := ⟨2, ![200000, 160]⟩
abbrev S200000x256 : Shape := ⟨2, ![200000, 256]⟩
abbrev S200000x2x128 : Shape := ⟨3, ![200000, 2, 128]⟩
abbrev S32x16 : Shape := ⟨2, ![32, 16]⟩
abbrev S6256 : Shape := ⟨1, ![6256]⟩
abbrev S80 : Shape := ⟨1, ![80]⟩
abbrev S64 : Shape := ⟨1, ![64]⟩
abbrev S64x2x128 : Shape := ⟨3, ![64, 2, 128]⟩
abbrev S10112 : Shape := ⟨1, ![10112]⟩
abbrev S16 : Shape := ⟨1, ![16]⟩
abbrev S1x6256 : Shape := ⟨2, ![1, 6256]⟩
abbrev S1 : Shape := ⟨1, ![1]⟩
abbrev S1x1x16 : Shape := ⟨3, ![1, 1, 16]⟩
abbrev S1x16 : Shape := ⟨2, ![1, 16]⟩

abbrev nBuf : Table → Nat
  | .hbm => 29
  | .local .scVector .vmem => 7
  | _ => 0

abbrev bufTy : (tb : Table) → Fin (nBuf tb) → BufTy
  | .hbm, ⟨0, _⟩ => ⟨S32x1000000, .f32⟩
  | .hbm, ⟨1, _⟩ => ⟨S32x1000000, .i32⟩
  | .hbm, ⟨2, _⟩ => ⟨S_, .i32⟩
  | .hbm, ⟨3, _⟩ => ⟨S32x1000000, .i32⟩
  | .hbm, ⟨4, _⟩ => ⟨S32x1000000, .i32⟩
  | .hbm, ⟨5, _⟩ => ⟨S_, .i32⟩
  | .hbm, ⟨6, _⟩ => ⟨S32x1000000, .i32⟩
  | .hbm, ⟨7, _⟩ => ⟨S32x1000000, .i32⟩
  | .hbm, ⟨8, _⟩ => ⟨S32x1000000, .i32⟩
  | .hbm, ⟨9, _⟩ => ⟨S32x6250x160, .i32⟩
  | .hbm, ⟨10, _⟩ => ⟨S_, .i32⟩
  | .hbm, ⟨11, _⟩ => ⟨S32x6250, .i32⟩
  | .hbm, ⟨12, _⟩ => ⟨S_, .i32⟩
  | .hbm, ⟨13, _⟩ => ⟨S_, .i32⟩
  | .hbm, ⟨14, _⟩ => ⟨S32x6256, .i32⟩
  | .hbm, ⟨15, _⟩ => ⟨S200000x160, .f32⟩
  | .hbm, ⟨16, _⟩ => ⟨S_, .i32⟩
  | .hbm, ⟨17, _⟩ => ⟨S_, .f32⟩
  | .hbm, ⟨18, _⟩ => ⟨S200000x256, .f32⟩
  | .hbm, ⟨19, _⟩ => ⟨S200000x2x128, .f32⟩
  | .hbm, ⟨20, _⟩ => ⟨S_, .i32⟩
  | .hbm, ⟨21, _⟩ => ⟨S32x6256, .i32⟩
  | .hbm, ⟨22, _⟩ => ⟨S32x6256, .i32⟩
  | .hbm, ⟨23, _⟩ => ⟨S_, .i32⟩
  | .hbm, ⟨24, _⟩ => ⟨S32x6256, .i32⟩
  | .hbm, ⟨25, _⟩ => ⟨S32x6256, .i32⟩
  | .hbm, ⟨26, _⟩ => ⟨S32x6256, .i32⟩
  | .hbm, ⟨27, _⟩ => ⟨S32x6256, .f32⟩
  | .hbm, ⟨28, _⟩ => ⟨S32x16, .f32⟩
  | .local .scVector .vmem, ⟨0, _⟩ => ⟨S6256, .f32⟩
  | .local .scVector .vmem, ⟨1, _⟩ => ⟨S80, .i32⟩
  | .local .scVector .vmem, ⟨2, _⟩ => ⟨S64, .i32⟩
  | .local .scVector .vmem, ⟨3, _⟩ => ⟨S64x2x128, .f32⟩
  | .local .scVector .vmem, ⟨4, _⟩ => ⟨S10112, .f32⟩
  | .local .scVector .vmem, ⟨5, _⟩ => ⟨S16, .f32⟩
  | .local .scVector .vmem, ⟨6, _⟩ => ⟨S16, .i32⟩
  | _, _ => ⟨S32x1000000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_c_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_c_2 : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_c_3 : Ref sig .tc := ⟨.hbm, 16, rfl⟩
abbrev main_call1_v0 : Ref sig .tc := ⟨.hbm, 17, rfl⟩
abbrev main_v10 : Ref sig .tc := ⟨.hbm, 18, rfl⟩
abbrev main_v11 : Ref sig .tc := ⟨.hbm, 19, rfl⟩
abbrev main_c_4 : Ref sig .tc := ⟨.hbm, 20, rfl⟩
abbrev main_v12 : Ref sig .tc := ⟨.hbm, 21, rfl⟩
abbrev main_v13 : Ref sig .tc := ⟨.hbm, 22, rfl⟩
abbrev main_c_5 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v11_scv : Ref sig .scVector := ⟨.hbm, 19, rfl⟩
abbrev main_v17_scv : Ref sig .scVector := ⟨.hbm, 27, rfl⟩
abbrev main_v18_scv : Ref sig .scVector := ⟨.hbm, 28, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [BitOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_37_r0 : BitVec 32 := 0#32
  ![v1.toNat, 0]
@[reducible] def k0_t1_loop : Scf.Loop 32 :=
  let c0_i32_0 : BitVec 32 := 0#32
  let c32_i32 : BitVec 32 := 32#32
  let v7 : BitVec 32 := Scalar.addi c0_i32_0 c32_i32
  let c1_i32 : BitVec 32 := 1#32
  ⟨c0_i32_0, v7, c1_i32⟩
@[reducible] def k0_t2_loop : Scf.Loop 32 :=
  let c0_i32_38 : BitVec 32 := 0#32
  let c391_i32_39 : BitVec 32 := 391#32
  let v64 : BitVec 32 := Scalar.addi c0_i32_38 c391_i32_39
  let c1_i32_40 : BitVec 32 := 1#32
  ⟨c0_i32_38, v64, c1_i32_40⟩
def k0_off2 (k0_t2 : Fin k0_t2_loop.trips) : Fin 1 → Nat :=
  let c0_i32_38 : BitVec 32 := 0#32
  let c1_i32_40 : BitVec 32 := 1#32
  let arg16 : BitVec 32 := Scf.iv c0_i32_38 c1_i32_40 k0_t2
  let c16_i32 : BitVec 32 := 16#32
  let v69 : BitVec 32 := Scalar.muli arg16 c16_i32
  let v70 : Index := Scalar.indexCast v69
  ![v70.toNat]
@[reducible] def k0_t3_loop : Scf.Loop 32 :=
  let c0_i32_3 : BitVec 32 := 0#32
  let c391_i32 : BitVec 32 := 391#32
  let v20 : BitVec 32 := Scalar.addi c0_i32_3 c391_i32
  let c1_i32_4 : BitVec 32 := 1#32
  ⟨c0_i32_3, v20, c1_i32_4⟩
def k0_off3 (k0_t3 : Fin k0_t3_loop.trips) : Fin 1 → Nat :=
  let c0_i32_3 : BitVec 32 := 0#32
  let c1_i32_4 : BitVec 32 := 1#32
  let arg13 : BitVec 32 := Scf.iv c0_i32_3 c1_i32_4 k0_t3
  let c16_i32 : BitVec 32 := 16#32
  let v59 : BitVec 32 := Scalar.muli arg13 c16_i32
  let v60 : Index := Scalar.indexCast v59
  ![v60.toNat]

def k0_chk1 (v79 : IVec S16 32) : Prop :=
  (∀ a x, ((![v79] : Fin 1 → IVec S16 32) a x).toNat < S80.size a)
theorem k0_idx1_inb : ∀ (v79 : IVec S16 32) (k0_hw1 : k0_chk1 v79), ∀ a x, ((![v79] : Fin 1 → IVec S16 32) a x).toNat < S80.size a := fun v79 k0_hw1 => k0_hw1
@[reducible] def k0_t4_loop : Scf.Loop 32 :=
  let c0_i32_21 : BitVec 32 := 0#32
  let c64_i32_22 : BitVec 32 := 64#32
  let v32 : BitVec 32 := Scalar.addi c0_i32_21 c64_i32_22
  let c1_i32_23 : BitVec 32 := 1#32
  ⟨c0_i32_21, v32, c1_i32_23⟩
@[reducible] def k0_t5_loop : Scf.Loop 32 :=
  let c0_i32_40 : BitVec 32 := 0#32
  let c10_i32 : BitVec 32 := 10#32
  let v64 : BitVec 32 := Scalar.addi c0_i32_40 c10_i32
  let c1_i32_41 : BitVec 32 := 1#32
  ⟨c0_i32_40, v64, c1_i32_41⟩
def k0_off4 (k0_t4 : Fin k0_t4_loop.trips) (k0_t5 : Fin k0_t5_loop.trips) : Fin 3 → Nat :=
  let c0_i32_21 : BitVec 32 := 0#32
  let c1_i32_23 : BitVec 32 := 1#32
  let arg13 : BitVec 32 := Scf.iv c0_i32_21 c1_i32_23 k0_t4
  let v94 : Index := Scalar.indexCast arg13
  let c0_i32_40 : BitVec 32 := 0#32
  let c1_i32_41 : BitVec 32 := 1#32
  let arg15 : BitVec 32 := Scf.iv c0_i32_40 c1_i32_41 k0_t5
  let c0_i32_43 : BitVec 32 := 0#32
  let v67 : BitVec 1 := Scalar.cmpi .sgt arg15 c0_i32_43
  let v68 : BitVec 32 := Scalar.extui v67
  let c0_i32_44 : BitVec 32 := 0#32
  let v69 : BitVec 1 := Scalar.cmpi .slt arg15 c0_i32_44
  let v70 : BitVec 32 := Scalar.extui v69
  let v71 : BitVec 32 := Scalar.subi v68 v70
  let c8_i32 : BitVec 32 := 8#32
  let c0_i32_45 : BitVec 32 := 0#32
  let v72 : BitVec 1 := Scalar.cmpi .sgt c8_i32 c0_i32_45
  let v73 : BitVec 32 := Scalar.extui v72
  let c0_i32_46 : BitVec 32 := 0#32
  let v74 : BitVec 1 := Scalar.cmpi .slt c8_i32 c0_i32_46
  let v75 : BitVec 32 := Scalar.extui v74
  let v76 : BitVec 32 := Scalar.subi v73 v75
  let v77 : BitVec 1 := Scalar.cmpi .ne v71 v76
  let v78 : BitVec 32 := Scalar.remsi arg15 c8_i32
  let c0_i32_47 : BitVec 32 := 0#32
  let v79 : BitVec 1 := Scalar.cmpi .ne v78 c0_i32_47
  let v80 : BitVec 1 := Scalar.andi v77 v79
  let v66 : BitVec 32 := Scalar.divsi arg15 c8_i32
  let c1_i32_48 : BitVec 32 := 1#32
  let v81 : BitVec 32 := Scalar.subi v66 c1_i32_48
  let v82 : BitVec 32 := Scalar.select v80 v81 v66
  let v95 : Index := Scalar.indexCast v82
  let c8_i32_49 : BitVec 32 := 8#32
  let c0_i32_50 : BitVec 32 := 0#32
  let v83 : BitVec 1 := Scalar.cmpi .eq c8_i32_49 c0_i32_50
  let c1_i32_51 : BitVec 32 := 1#32
  let v84 : BitVec 32 := Scalar.select v83 c1_i32_51 c8_i32_49
  let v85 : BitVec 32 := Scalar.remsi arg15 v84
  let c0_i32_53 : BitVec 32 := 0#32
  let v87 : BitVec 1 := Scalar.cmpi .slt v85 c0_i32_53
  let c0_i32_54 : BitVec 32 := 0#32
  let v88 : BitVec 1 := Scalar.cmpi .slt v84 c0_i32_54
  let v89 : BitVec 1 := Scalar.xori v87 v88
  let c0_i32_52 : BitVec 32 := 0#32
  let v86 : BitVec 1 := Scalar.cmpi .ne v85 c0_i32_52
  let v90 : BitVec 1 := Scalar.andi v89 v86
  let v91 : BitVec 32 := Scalar.addi v85 v84
  let v92 : BitVec 32 := Scalar.select v90 v91 v85
  let c16_i32 : BitVec 32 := 16#32
  let v93 : BitVec 32 := Scalar.muli v92 c16_i32
  let v96 : Index := Scalar.indexCast v93
  ![v94.toNat, v95.toNat, v96.toNat]

def k0_chk2 (v116 : IVec S16 32) : Prop :=
  (∀ a x, ((![v116] : Fin 1 → IVec S16 32) a x).toNat < S10112.size a)
theorem k0_idx2_inb : ∀ (v116 : IVec S16 32) (k0_hw2 : k0_chk2 v116), ∀ a x, ((![v116] : Fin 1 → IVec S16 32) a x).toNat < S10112.size a := fun v116 k0_hw2 => k0_hw2
def k0_off5 (v33 : BitVec 32) : Fin 1 → Nat :=
  let v40 : Index := Scalar.indexCast v33
  ![v40.toNat]

@[reducible] def k0_t6_loop : Scf.Loop 32 :=
  let c0_i32_26 : BitVec 32 := 0#32
  let c32_i32_27 : BitVec 32 := 32#32
  let v44 : BitVec 32 := Scalar.addi c0_i32_26 c32_i32_27
  let c1_i32_28 : BitVec 32 := 1#32
  ⟨c0_i32_26, v44, c1_i32_28⟩
@[reducible] def k0_t7_loop (v33 : BitVec 32) : Scf.Loop 32 :=
  let c0_i32_38 : BitVec 32 := 0#32
  let c15_i32 : BitVec 32 := 15#32
  let v42 : BitVec 32 := Scalar.addi v33 c15_i32
  let c4_i32 : BitVec 32 := 4#32
  let v43 : BitVec 32 := Scalar.shrsi v42 c4_i32
  let v64 : BitVec 32 := Scalar.subi v43 c0_i32_38
  let c1_i32_39 : BitVec 32 := 1#32
  let v66 : BitVec 32 := Scalar.divsi v64 c1_i32_39
  let v67 : BitVec 32 := Scalar.muli v66 c1_i32_39
  let v68 : BitVec 32 := Scalar.addi c0_i32_38 v67
  let c1_i32_40 : BitVec 32 := 1#32
  ⟨c0_i32_38, v68, c1_i32_40⟩
def k0_off6 (v33 : BitVec 32) (k0_t7 : Fin (k0_t7_loop v33).trips) : Fin 1 → Nat :=
  let c0_i32_38 : BitVec 32 := 0#32
  let c1_i32_40 : BitVec 32 := 1#32
  let arg16 : BitVec 32 := Scf.iv c0_i32_38 c1_i32_40 k0_t7
  let c16_i32 : BitVec 32 := 16#32
  let v74 : BitVec 32 := Scalar.muli arg16 c16_i32
  let v75 : Index := Scalar.indexCast v74
  ![v75.toNat]
@[reducible] def k0_t8_loop (v33 : BitVec 32) : Scf.Loop 32 :=
  let c0_i32_38 : BitVec 32 := 0#32
  let c15_i32 : BitVec 32 := 15#32
  let v42 : BitVec 32 := Scalar.addi v33 c15_i32
  let c4_i32 : BitVec 32 := 4#32
  let v43 : BitVec 32 := Scalar.shrsi v42 c4_i32
  let v64 : BitVec 32 := Scalar.subi v43 c0_i32_38
  let c1_i32_39 : BitVec 32 := 1#32
  let v66 : BitVec 32 := Scalar.divsi v64 c1_i32_39
  let v67 : BitVec 32 := Scalar.muli v66 c1_i32_39
  let v68 : BitVec 32 := Scalar.addi c0_i32_38 v67
  let v65 : BitVec 32 := Scalar.addi c0_i32_38 v64
  let c1_i32_41 : BitVec 32 := 1#32
  ⟨v68, v65, c1_i32_41⟩
def k0_off7 (v33 : BitVec 32) (k0_t8 : Fin (k0_t8_loop v33).trips) : Fin 1 → Nat :=
  let c0_i32_38 : BitVec 32 := 0#32
  let c15_i32 : BitVec 32 := 15#32
  let v42 : BitVec 32 := Scalar.addi v33 c15_i32
  let c4_i32 : BitVec 32 := 4#32
  let v43 : BitVec 32 := Scalar.shrsi v42 c4_i32
  let v64 : BitVec 32 := Scalar.subi v43 c0_i32_38
  let c1_i32_39 : BitVec 32 := 1#32
  let v66 : BitVec 32 := Scalar.divsi v64 c1_i32_39
  let v67 : BitVec 32 := Scalar.muli v66 c1_i32_39
  let v68 : BitVec 32 := Scalar.addi c0_i32_38 v67
  let c1_i32_41 : BitVec 32 := 1#32
  let arg16 : BitVec 32 := Scf.iv v68 c1_i32_41 k0_t8
  let c16_i32 : BitVec 32 := 16#32
  let v74 : BitVec 32 := Scalar.muli arg16 c16_i32
  let v75 : Index := Scalar.indexCast v74
  ![v75.toNat]

def k0_chk3 (v33 : BitVec 32) : Prop :=
  (∀ a, (k0_off5 v33) a + S16.size a ≤ S10112.size a) ∧
  ((k0_t7_loop v33).OK) ∧
  (∀ k0_t7 : Fin (k0_t7_loop v33).trips, ∀ a, (k0_off6 v33 k0_t7) a + S16.size a ≤ S10112.size a) ∧
  ((k0_t8_loop v33).OK) ∧
  (∀ k0_t8 : Fin (k0_t8_loop v33).trips, ∀ a, (k0_off7 v33 k0_t8) a + S16.size a ≤ S10112.size a)
theorem k0_off5_inb : ∀ (v33 : BitVec 32) (k0_hw3 : k0_chk3 v33), ∀ a, (k0_off5 v33) a + S16.size a ≤ S10112.size a := fun v33 k0_hw3 => k0_hw3.1
theorem k0_t7_ok : ∀ (v33 : BitVec 32) (k0_hw3 : k0_chk3 v33), (k0_t7_loop v33).OK := fun v33 k0_hw3 => k0_hw3.2.1
theorem k0_off6_inb : ∀ (v33 : BitVec 32) (k0_hw3 : k0_chk3 v33) (k0_t7 : Fin (k0_t7_loop v33).trips), ∀ a, (k0_off6 v33 k0_t7) a + S16.size a ≤ S10112.size a := fun v33 k0_hw3 k0_t7 => k0_hw3.2.2.1 k0_t7
theorem k0_t8_ok : ∀ (v33 : BitVec 32) (k0_hw3 : k0_chk3 v33), (k0_t8_loop v33).OK := fun v33 k0_hw3 => k0_hw3.2.2.2.1
theorem k0_off7_inb : ∀ (v33 : BitVec 32) (k0_hw3 : k0_chk3 v33) (k0_t8 : Fin (k0_t8_loop v33).trips), ∀ a, (k0_off7 v33 k0_t8) a + S16.size a ≤ S10112.size a := fun v33 k0_hw3 k0_t8 => k0_hw3.2.2.2.2 k0_t8

def k0_off8 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_37_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S32x1000000 : Shape := ⟨2, ![32, 1000000]⟩
abbrev S32x64 : Shape := ⟨2, ![32, 64]⟩
abbrev S32x1 : Shape := ⟨2, ![32, 1]⟩
abbrev S32x16 : Shape := ⟨2, ![32, 16]⟩

abbrev nBuf : Space → Nat
  | .hbm => 5
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S32x64, .f32⟩
  | .hbm, ⟨2, _⟩ => ⟨S32x64, .i32⟩
  | .hbm, ⟨3, _⟩ => ⟨S32x1, .f32⟩
  | .hbm, ⟨4, _⟩ => ⟨S32x16, .f32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_values : Ref sig .tc := ⟨.hbm, 1, rfl⟩
abbrev main_indices : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Dense.lean ====
abbrev S32x1000000 : Shape := ⟨2, ![32, 1000000]⟩
abbrev S32x16 : Shape := ⟨2, ![32, 16]⟩
abbrev S_ : Shape := ⟨0, ![]⟩
abbrev S32x1x16 : Shape := ⟨3, ![32, 1, 16]⟩
abbrev S32x1000x1000 : Shape := ⟨3, ![32, 1000, 1000]⟩
abbrev S1x1x16 : Shape := ⟨3, ![1, 1, 16]⟩
abbrev S1x1000x1000 : Shape := ⟨3, ![1, 1000, 1000]⟩
abbrev S1000x1000 : Shape := ⟨2, ![1000, 1000]⟩
abbrev S1x1x1 : Shape := ⟨3, ![1, 1, 1]⟩
abbrev S1 : Shape := ⟨1, ![1]⟩

abbrev nBuf : Space → Nat
  | .hbm => 18
  | .vmem => 9
  | .smem => 0
  | _ => 0

abbrev bufTy : (tb : Table) → Fin (tcTables nBuf tb) → BufTy
  | .hbm, ⟨0, _⟩ => ⟨S32x1000000, .f32⟩
  | .hbm, ⟨1, _⟩ => ⟨S32x1000000, .f32⟩
  | .hbm, ⟨2, _⟩ => ⟨S32x16, .f32⟩
  | .hbm, ⟨3, _⟩ => ⟨S_, .f32⟩
  | .hbm, ⟨4, _⟩ => ⟨S32x1000000, .f32⟩
  | .hbm, ⟨5, _⟩ => ⟨S32x1000000, .f32⟩
  | .hbm, ⟨6, _⟩ => ⟨S32x1000000, .f32⟩
  | .hbm, ⟨7, _⟩ => ⟨S32x1000000, .f32⟩
  | .hbm, ⟨8, _⟩ => ⟨S_, .f32⟩
  | .hbm, ⟨9, _⟩ => ⟨S32x1000000, .f32⟩
  | .hbm, ⟨10, _⟩ => ⟨S32x1000000, .f32⟩
  | .hbm, ⟨11, _⟩ => ⟨S32x1000000, .f32⟩
  | .hbm, ⟨12, _⟩ => ⟨S32x1000000, .f32⟩
  | .hbm, ⟨13, _⟩ => ⟨S32x1000000, .f32⟩
  | .hbm, ⟨14, _⟩ => ⟨S32x1x16, .f32⟩
  | .hbm, ⟨15, _⟩ => ⟨S32x1000x1000, .f32⟩
  | .hbm, ⟨16, _⟩ => ⟨S32x1000x1000, .f32⟩
  | .hbm, ⟨17, _⟩ => ⟨S32x1000x1000, .f32⟩
  | .local _ .vmem, ⟨0, _⟩ => ⟨S1x1x16, .f32⟩
  | .local _ .vmem, ⟨1, _⟩ => ⟨S1x1x16, .f32⟩
  | .local _ .vmem, ⟨2, _⟩ => ⟨S1x1000x1000, .f32⟩
  | .local _ .vmem, ⟨3, _⟩ => ⟨S1x1000x1000, .f32⟩
  | .local _ .vmem, ⟨4, _⟩ => ⟨S1x1000x1000, .f32⟩
  | .local _ .vmem, ⟨5, _⟩ => ⟨S1x1000x1000, .f32⟩
  | .local _ .vmem, ⟨6, _⟩ => ⟨S1x1000x1000, .f32⟩
  | .local _ .vmem, ⟨7, _⟩ => ⟨S1x1000x1000, .f32⟩
  | .local _ .vmem, ⟨8, _⟩ => ⟨S1000x1000, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1000x1000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1000x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SoftmaxIdeal.lean ====
abbrev S32x1000000 : Shape := ⟨2, ![32, 1000000]⟩
abbrev S32x16 : Shape := ⟨2, ![32, 16]⟩
abbrev S32x1 : Shape := ⟨2, ![32, 1]⟩
abbrev S_ : Shape := ⟨0, ![]⟩
abbrev S32 : Shape := ⟨1, ![32]⟩
abbrev S32x1000x1000 : Shape := ⟨3, ![32, 1000, 1000]⟩

abbrev nBuf : Space → Nat
  | .hbm => 47
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S32x1000000, .f32⟩
  | .hbm, ⟨2, _⟩ => ⟨S32x16, .f32⟩
  | .hbm, ⟨3, _⟩ => ⟨S32x1, .f32⟩
  | .hbm, ⟨4, _⟩ => ⟨S_, .f32⟩
  | .hbm, ⟨5, _⟩ => ⟨S32x1000000, .f32⟩
  | .hbm, ⟨6, _⟩ => ⟨S32x1000000, .f32⟩
  | .hbm, ⟨7, _⟩ => ⟨S32x1000000, .f32⟩
  | .hbm, ⟨8, _⟩ => ⟨S32x1000000, .f32⟩
  | .hbm, ⟨9, _⟩ => ⟨S_, .f32⟩
  | .hbm, ⟨10, _⟩ => ⟨S32x1000000, .f32⟩
  | .hbm, ⟨11, _⟩ => ⟨S32x1000000, .f32⟩
  | .hbm, ⟨12, _⟩ => ⟨S32x1000000, .f32⟩
  | .hbm, ⟨13, _⟩ => ⟨S32x1000000, .f32⟩
  | .hbm, ⟨14, _⟩ => ⟨S32x1000000, .f32⟩
  | .hbm, ⟨15, _⟩ => ⟨S32x1000000, .f32⟩
  | .hbm, ⟨16, _⟩ => ⟨S32x1000000, .f32⟩
  | .hbm, ⟨17, _⟩ => ⟨S_, .f32⟩
  | .hbm, ⟨18, _⟩ => ⟨S32x1000000, .f32⟩
  | .hbm, ⟨19, _⟩ => ⟨S32x1000000, .f32⟩
  | .hbm, ⟨20, _⟩ => ⟨S32x1000000, .f32⟩
  | .hbm, ⟨21, _⟩ => ⟨S32x1000000, .f32⟩
  | .hbm, ⟨22, _⟩ => ⟨S_, .f32⟩
  | .hbm, ⟨23, _⟩ => ⟨S32x1000000, .f32⟩
  | .hbm, ⟨24, _⟩ => ⟨S32x1000000, .f32⟩
  | .hbm, ⟨25, _⟩ => ⟨S_, .f32⟩
  | .hbm, ⟨26, _⟩ => ⟨S32x1000000, .f32⟩
  | .hbm, ⟨27, _⟩ => ⟨S32x1000000, .f32⟩
  | .hbm, ⟨28, _⟩ => ⟨S32x1000000, .f32⟩
  | .hbm, ⟨29, _⟩ => ⟨S_, .f32⟩
  | .hbm, ⟨30, _⟩ => ⟨S32x1000000, .f32⟩
  | .hbm, ⟨31, _⟩ => ⟨S32x1000000, .f32⟩
  | .hbm, ⟨32, _⟩ => ⟨S_, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S32x1, .f32⟩
  | .hbm, ⟨38, _⟩ => ⟨S32x1000000, .f32⟩
  | .hbm, ⟨39, _⟩ => ⟨S32x1000000, .f32⟩
  | .hbm, ⟨40, _⟩ => ⟨S32x1000000, .f32⟩
  | .hbm, ⟨41, _⟩ => ⟨S_, .f32⟩
  | .hbm, ⟨42, _⟩ => ⟨S32, .f32⟩
  | .hbm, ⟨43, _⟩ => ⟨S32x1, .f32⟩
  | .hbm, ⟨44, _⟩ => ⟨S32x1000000, .f32⟩
  | .hbm, ⟨45, _⟩ => ⟨S32x1000000, .f32⟩
  | .hbm, ⟨46, _⟩ => ⟨S32x1000x1000, .f32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.RowMath.lean ====
/-
  The arithmetic of the row threshold, apart from any program: counting the entries of a row that exceed a bound,
  bisecting for the 64th largest of them, and the two facts the kernel's second stage rests on — packing the
  positions that satisfy a predicate keeps every count over them, and a row counted by chunks whose maxima are known
  needs only the chunks whose maximum exceeds the bound.
-/
module
public import Mathlib.Data.Nat.Count
public import Mathlib.Algebra.BigOperators.Group.Finset.Basic
public import Mathlib.Algebra.BigOperators.Intervals
public import Mathlib.Algebra.Order.BigOperators.Group.Finset
public import Mathlib.Tactic.Linarith
@[expose] public section

namespace Cert.RowMath

open Finset

/-- How many of the first `n` entries exceed `x`. -/
def above (K : ℕ → ℤ) (n : ℕ) (x : ℤ) : ℕ := Nat.count (fun i => x < K i) n

/-- How many of the first `n` entries are at least `x`. -/
def atLeast (K : ℕ → ℤ) (n : ℕ) (x : ℤ) : ℕ := Nat.count (fun i => x ≤ K i) n

theorem count_mono_below (p q : ℕ → Prop) [DecidablePred p] [DecidablePred q] (n : ℕ) (h : ∀ i < n, p i → q i) :
    Nat.count p n ≤ Nat.count q n := by
  induction n with
  | zero => simp
  | succ n ih =>
    rw [Nat.count_succ, Nat.count_succ]
    have h1 := ih fun i hi => h i (Nat.lt_succ_of_lt hi)
    have h2 := h n (Nat.lt_succ_self n)
    split_ifs with a b <;> first | omega | exact absurd (h2 a) b

theorem count_congr_below (p q : ℕ → Prop) [DecidablePred p] [DecidablePred q] (n : ℕ) (h : ∀ i < n, (p i ↔ q i)) :
    Nat.count p n = Nat.count q n :=
  le_antisymm (count_mono_below p q n fun i hi => (h i hi).1) (count_mono_below q p n fun i hi => (h i hi).2)

theorem count_eq_zero_below (p : ℕ → Prop) [DecidablePred p] (n : ℕ) (h : ∀ i < n, ¬ p i) : Nat.count p n = 0 := by
  induction n with
  | zero => simp
  | succ n ih => rw [Nat.count_succ, ih fun i hi => h i (Nat.lt_succ_of_lt hi), if_neg (h n (Nat.lt_succ_self n))]

theorem count_eq_all_below (p : ℕ → Prop) [DecidablePred p] (n : ℕ) (h : ∀ i < n, p i) : Nat.count p n = n := by
  induction n with
  | zero => simp
  | succ n ih => rw [Nat.count_succ, ih fun i hi => h i (Nat.lt_succ_of_lt hi), if_pos (h n (Nat.lt_succ_self n))]

/-- The 64th largest entry, with multiplicity. -/
def Is64th (K : ℕ → ℤ) (n : ℕ) (v : ℤ) : Prop := above K n v < 64 ∧ 64 ≤ atLeast K n v

theorem Is64th.le {K : ℕ → ℤ} {n : ℕ} {v w : ℤ} (hv : Is64th K n v) (hw : Is64th K n w) : w ≤ v := by
  by_contra hlt
  have : atLeast K n w ≤ above K n v := count_mono_below _ _ n fun i _ h => by omega
  have := hv.1; have := hw.2; omega

/-- There is one such value. -/
theorem Is64th.unique {K : ℕ → ℤ} {n : ℕ} {v w : ℤ} (hv : Is64th K n v) (hw : Is64th K n w) : v = w :=
  le_antisymm (hw.le hv) (hv.le hw)

/-! ### Bisection -/

/-- What holds of the interval `(lo, hi]` after `k` halvings from `(L, ·]`, for a decreasing count `C`. -/
structure Bisecting (C : ℤ → ℕ) (L : ℤ) (k : ℕ) (lo hi : ℤ) : Prop where
  floor : L ≤ lo
  order : lo ≤ hi
  few : C hi < 64
  width : hi - lo ≤ 2 ^ (32 - k)
  many : 64 ≤ C lo ∨ (lo = L ∧ hi - lo ≤ 2 ^ (32 - k) - 1)

theorem Bisecting.start (C : ℤ → ℕ) (L H : ℤ) (hLH : L ≤ H) (hw : H - L ≤ 2 ^ 32 - 1) (hH : C H < 64) :
    Bisecting C L 0 L H :=
  ⟨le_refl _, hLH, hH, by norm_num at hw ⊢; omega, Or.inr ⟨rfl, by norm_num at hw ⊢; omega⟩⟩

theorem Bisecting.step {C : ℤ → ℕ} {L : ℤ} {k : ℕ} {lo hi mid : ℤ} (h : Bisecting C L k lo hi) (hk : k < 32)
    (hmid : mid = (lo + hi) / 2) :
    Bisecting C L (k + 1) (if 64 ≤ C mid then mid else lo) (if 64 ≤ C mid then hi else mid) := by
  obtain ⟨h0, h1, h2, h3, h4⟩ := h
  have hp : (2 : ℤ) ^ (32 - k) = 2 * 2 ^ (32 - (k + 1)) := by
    rw [show 32 - k = (32 - (k + 1)) + 1 by omega, pow_succ, mul_comm]
  rw [hp] at h3 h4
  split_ifs with hc
  · exact ⟨by omega, by omega, h2, by omega, Or.inl hc⟩
  · refine ⟨h0, by omega, by omega, by omega, ?_⟩
    rcases h4 with h4 | ⟨h4, h5⟩
    · exact Or.inl h4
    · exact Or.inr ⟨h4, by omega⟩

theorem Bisecting.finish {C : ℤ → ℕ} {L : ℤ} {lo hi : ℤ} (h : Bisecting C L 32 lo hi) :
    L ≤ hi ∧ C hi < 64 ∧ ((64 ≤ C lo ∧ hi ≤ lo + 1 ∧ L ≤ lo) ∨ hi = L) := by
  obtain ⟨h0, h1, h2, h3, h4⟩ := h
  norm_num at h3 h4
  refine ⟨by omega, h2, ?_⟩
  rcases h4 with h4 | ⟨h4, h5⟩
  · exact Or.inl ⟨h4, by omega, h0⟩
  · exact Or.inr (by omega)

/-! ### Packing -/

/-- The first entries of `g` are the entries of `f` at the positions below `n` satisfying `p`, in order. -/
def Packed {α : Type} (p : ℕ → Prop) [DecidablePred p] (f g : ℕ → α) (n : ℕ) : Prop :=
  ∀ i < n, p i → g (Nat.count p i) = f i

theorem Packed.mono {α : Type} {p : ℕ → Prop} [DecidablePred p] {f g : ℕ → α} {n m : ℕ} (h : Packed p f g n) (hm : m ≤ n) :
    Packed p f g m := fun i hi hp => h i (lt_of_lt_of_le hi hm) hp

theorem Packed.count {α : Type} {p : ℕ → Prop} [DecidablePred p] {f g : ℕ → α} {n : ℕ} (h : Packed p f g n)
    (P : α → Prop) [DecidablePred P] :
    Nat.count (fun j => P (g j)) (Nat.count p n) = Nat.count (fun q => p q ∧ P (f q)) n := by
  induction n with
  | zero => simp
  | succ n ih =>
    have ih' := ih (h.mono (Nat.le_succ n))
    by_cases hp : p n
    · rw [Nat.count_succ p, if_pos hp, Nat.count_succ (fun j => P (g j)), Nat.count_succ (fun q => p q ∧ P (f q)), ih',
        h n (Nat.lt_succ_self n) hp]
      simp [hp]
    · rw [Nat.count_succ p, if_neg hp, Nat.count_succ (fun q => p q ∧ P (f q)), Nat.add_zero, ih']
      simp [hp]

theorem Packed.sum {α : Type} {p : ℕ → Prop} [DecidablePred p] {f g : ℕ → α} {n : ℕ} (h : Packed p f g n) (w : α → ℕ) :
    ∑ j ∈ range (Nat.count p n), w (g j) = ∑ i ∈ range n, if p i then w (f i) else 0 := by
  induction n with
  | zero => simp
  | succ n ih =>
    have ih' := ih (h.mono (Nat.le_succ n))
    by_cases hp : p n
    · rw [Nat.count_succ p, if_pos hp, sum_range_succ, sum_range_succ, ih', h n (Nat.lt_succ_self n) hp, if_pos hp]
    · rw [Nat.count_succ p, if_neg hp, Nat.add_zero, sum_range_succ, ih', if_neg hp, Nat.add_zero]

/-- Every entry below the count comes from a position satisfying the predicate. -/
theorem Packed.exists {α : Type} {p : ℕ → Prop} [DecidablePred p] {f g : ℕ → α} {n : ℕ} (h : Packed p f g n)
    (j : ℕ) (hj : j < Nat.count p n) : ∃ i < n, p i ∧ g j = f i := by
  induction n with
  | zero => simp at hj
  | succ n ih =>
    by_cases hp : p n
    · rw [Nat.count_succ, if_pos hp] at hj
      by_cases hlt : j < Nat.count p n
      · obtain ⟨i, hi, hpi, e⟩ := ih (h.mono (Nat.le_succ n)) hlt
        exact ⟨i, Nat.lt_succ_of_lt hi, hpi, e⟩
      · have : j = Nat.count p n := by omega
        exact ⟨n, Nat.lt_succ_self n, hp, by rw [this]; exact h n (Nat.lt_succ_self n) hp⟩
    · rw [Nat.count_succ, if_neg hp, Nat.add_zero] at hj
      obtain ⟨i, hi, hpi, e⟩ := ih (h.mono (Nat.le_succ n)) hj
      exact ⟨i, Nat.lt_succ_of_lt hi, hpi, e⟩

theorem count_block (P : ℕ → Prop) [DecidablePred P] (b n : ℕ) :
    Nat.count P (b * n) = ∑ i ∈ range n, Nat.count (fun t => P (b * i + t)) b := by
  induction n with
  | zero => simp
  | succ n ih => rw [Nat.mul_succ, Nat.count_add, ih, sum_range_succ]

/-! ### The row by chunks -/

/-- `M` holds the maxima of the 6250 chunks of 160 of the row `K`, and then six entries at the least word. -/
structure ChunkMax (K M : ℕ → ℤ) : Prop where
  bound : ∀ i < 6250, ∀ t < 160, K (160 * i + t) ≤ M i
  attained : ∀ i < 6250, ∃ t < 160, K (160 * i + t) = M i
  pad : ∀ i, 6250 ≤ i → i < 6256 → M i = -2 ^ 31
  least : ∀ i < 6256, -2 ^ 31 ≤ M i
  rowLeast : ∀ q < 1000000, -2 ^ 31 ≤ K q

theorem exists_chunk (q : ℕ) (hq : q < 1000000) : ∃ i < 6250, ∃ t < 160, q = 160 * i + t :=
  ⟨q / 160, by omega, q % 160, Nat.mod_lt _ (by norm_num), by omega⟩

/-- If at least 64 chunk maxima reach `τ`, at least 64 entries of the row do. -/
theorem ChunkMax.atLeast_row {K M : ℕ → ℤ} (h : ChunkMax K M) (τ : ℤ) (hM : 64 ≤ atLeast M 6256 τ) :
    64 ≤ atLeast K 1000000 τ := by
  by_cases hτ : τ ≤ -2 ^ 31
  · rw [atLeast, count_eq_all_below]
    · norm_num
    · intro i hi; exact le_trans hτ (h.rowLeast i hi)
  · have e : atLeast M 6256 τ = atLeast M 6250 τ := by
      rw [atLeast, show 6256 = 6250 + 6 from rfl, Nat.count_add, count_eq_zero_below (fun k => τ ≤ M (6250 + k)), Nat.add_zero]
      · rfl
      · intro i hi hle; rw [h.pad (6250 + i) (by omega) (by omega)] at hle; exact hτ hle
    have e2 : atLeast K 1000000 τ = ∑ i ∈ range 6250, Nat.count (fun t => τ ≤ K (160 * i + t)) 160 :=
      count_block (fun q => τ ≤ K q) 160 6250
    have e3 : atLeast M 6250 τ = ∑ i ∈ range 6250, if τ ≤ M i then 1 else 0 := by
      rw [atLeast, Nat.count_eq_card_filter_range, card_filter]
    rw [e2]
    refine le_trans (le_trans hM (le_of_eq (e.trans e3))) (sum_le_sum fun i hi => ?_)
    split_ifs with hle
    · obtain ⟨t, ht, et⟩ := h.attained i (mem_range.mp hi)
      have h1 : Nat.count (fun t => τ ≤ K (160 * i + t)) (t + 1) ≤ Nat.count (fun t => τ ≤ K (160 * i + t)) 160 :=
        Nat.count_monotone _ (by omega)
      have h2 : Nat.count (fun t => τ ≤ K (160 * i + t)) (t + 1)
          = Nat.count (fun t => τ ≤ K (160 * i + t)) t + 1 := by
        rw [Nat.count_succ, if_pos (by rw [et]; exact hle)]
      omega
    · exact Nat.zero_le _

/-- The entries above `x`, for `x` at or above `τ`, counted over the chunks whose maximum exceeds `τ`, listed in
    any array the packing fills. -/
theorem ChunkMax.above_row {K M : ℕ → ℤ} (h : ChunkMax K M) (τ : ℤ) (hτ : -2 ^ 31 ≤ τ) (x : ℤ) (hx : τ ≤ x) (g : ℕ → ℕ)
    (hg : Packed (fun i => τ < M i) id g 6256) :
    ∑ j ∈ range (above M 6256 τ), Nat.count (fun t => x < K (160 * g j + t)) 160 = above K 1000000 x := by
  have e := hg.sum fun c => Nat.count (fun t => x < K (160 * c + t)) 160
  have e2 : above K 1000000 x = ∑ i ∈ range 6250, Nat.count (fun t => x < K (160 * i + t)) 160 :=
    count_block (fun q => x < K q) 160 6250
  rw [above, e, e2, show 6256 = 6250 + 6 from rfl, sum_range_add]
  have z : ∑ i ∈ range 6, (if τ < M (6250 + i) then Nat.count (fun t => x < K (160 * id (6250 + i) + t)) 160 else 0) = 0 :=
    sum_eq_zero fun i hi => by
      rw [if_neg]; rw [h.pad (6250 + i) (by omega) (by have := mem_range.mp hi; omega)]; omega
  rw [z, Nat.add_zero]
  refine sum_congr rfl fun i hi => ?_
  split_ifs with hlt
  · rfl
  · symm; apply count_eq_zero_below
    intro t ht hxt
    have := h.bound i (mem_range.mp hi) t ht
    omega

/-- The candidates: entry `160 c + t` is the `t`-th entry of the `c`-th listed chunk, kept when the chunk is listed and
    the entry exceeds `τ`. -/
def kept (V : ℕ → ℤ) (nc : ℕ) (τ : ℤ) (q : ℕ) : Prop := q / 160 < nc ∧ τ < V q

instance (V : ℕ → ℤ) (nc : ℕ) (τ : ℤ) : DecidablePred (kept V nc τ) := fun _ => instDecidableAnd

/-- Over the packed candidates the count above any `x ≥ τ` is the row's. -/
theorem ChunkMax.above_candidates {K M : ℕ → ℤ} (h : ChunkMax K M) (τ : ℤ) (hτ : -2 ^ 31 ≤ τ)
    (hfew : above M 6256 τ < 64) (g : ℕ → ℕ) (hg : Packed (fun i => τ < M i) id g 6256) (V B : ℕ → ℤ)
    (hV : ∀ c < 64, c < above M 6256 τ → ∀ t < 160, V (160 * c + t) = K (160 * g c + t))
    (hB : Packed (kept V (above M 6256 τ) τ) V B 10240) (x : ℤ) (hx : τ ≤ x) :
    above B (Nat.count (kept V (above M 6256 τ) τ) 10240) x = above K 1000000 x := by
  rw [← h.above_row τ hτ x hx g hg, above, hB.count fun v => x < v, show 10240 = 160 * 64 from rfl, count_block]
  generalize hn : above M 6256 τ = nc at *
  rw [show 64 = nc + (64 - nc) by omega, sum_range_add]
  have z : ∑ i ∈ range (64 - nc), Nat.count (fun t => kept V nc τ (160 * (nc + i) + t) ∧ x < V (160 * (nc + i) + t)) 160 = 0 :=
    sum_eq_zero fun i _ => count_eq_zero_below _ _ fun t ht hk => by
      have h1 := hk.1.1
      have h2 : (160 * (nc + i) + t) / 160 = nc + i := by omega
      omega
  rw [z, Nat.add_zero]
  refine sum_congr rfl fun c hc => ?_
  have hc' := mem_range.mp hc
  apply count_congr_below
  intro t ht
  rw [hV c (by omega) hc' t ht]
  constructor
  · exact fun hh => hh.2
  · intro hh
    refine ⟨⟨?_, ?_⟩, hh⟩
    · have h2 : (160 * c + t) / 160 = c := by omega
      omega
    · rw [hV c (by omega) hc' t ht]; omega

/-- The kept candidates are as many as the row's entries above `τ`. -/
theorem ChunkMax.count_candidates {K M : ℕ → ℤ} (h : ChunkMax K M) (τ : ℤ) (hτ : -2 ^ 31 ≤ τ)
    (hfew : above M 6256 τ < 64) (g : ℕ → ℕ) (hg : Packed (fun i => τ < M i) id g 6256) (V B : ℕ → ℤ)
    (hV : ∀ c < 64, c < above M 6256 τ → ∀ t < 160, V (160 * c + t) = K (160 * g c + t))
    (hB : Packed (kept V (above M 6256 τ) τ) V B 10240) :
    Nat.count (kept V (above M 6256 τ) τ) 10240 = above K 1000000 τ := by
  have e := h.above_candidates τ hτ hfew g hg V B hV hB τ le_rfl
  have e2 := hB.count fun v => τ < v
  rw [← e]
  refine Eq.trans ?_ e2.symm
  apply count_congr_below
  intro q _
  exact ⟨fun hk => ⟨hk, hk.2⟩, fun hk => hk.1⟩

/-- There are at most 160 candidates of each listed chunk. -/
theorem count_kept_le (V : ℕ → ℤ) (nc : ℕ) (hnc : nc ≤ 63) (τ : ℤ) (n : ℕ) : Nat.count (kept V nc τ) n ≤ 10080 := by
  by_cases hn : n ≤ 10080
  · exact le_trans (Nat.count_le _) hn
  · rw [show n = 10080 + (n - 10080) by omega, Nat.count_add, count_eq_zero_below (fun k => kept V nc τ (10080 + k)), Nat.add_zero]
    · exact (Nat.count_le _)
    · intro i _ hk
      have := hk.1
      omega

/-- The count over an array whose entries past the candidates, up to the end of the last group of sixteen, are `τ`. -/
theorem above_pad (B : ℕ → ℤ) (c : ℕ) (τ x : ℤ) (hx : τ ≤ x) (hpad : ∀ i < 16, B (c + i) = τ) :
    above B (16 * ((c + 15) / 16)) x = above B c x := by
  rw [show 16 * ((c + 15) / 16) = c + (16 * ((c + 15) / 16) - c) by omega, above, Nat.count_add,
    count_eq_zero_below (fun k => x < B (c + k)), Nat.add_zero]
  · rfl
  · intro i hi
    rw [hpad i (by omega)]; omega

/-- The value the kernel leaves: `τ` when fewer than 64 candidates were kept, the second bisection's otherwise. -/
theorem is64th_of_stages {K M : ℕ → ℤ} (h : ChunkMax K M) (τ lo1 : ℤ) (hτ0 : -2 ^ 31 ≤ τ)
    (h1 : Bisecting (above M 6256) (-2 ^ 31) 32 lo1 τ) (C : ℤ → ℕ) (c : ℕ) (hc : c = above K 1000000 τ)
    (hC : ∀ x, τ ≤ x → C x = above K 1000000 x) (lo2 hi2 : ℤ) (h2 : Bisecting C τ 32 lo2 hi2) :
    Is64th K 1000000 (if 64 ≤ c then hi2 else τ) := by
  have hge : 64 ≤ atLeast M 6256 τ := by
    obtain ⟨_, _, h3⟩ := h1.finish
    rcases h3 with ⟨h3, h4, _⟩ | h3
    · exact le_trans h3 (count_mono_below _ _ _ fun i _ hi => by omega)
    · rw [h3, atLeast, count_eq_all_below]
      · norm_num
      · exact h.least
  split_ifs with hb
  · obtain ⟨h3, h4, h5⟩ := h2.finish
    rw [hC hi2 h3] at h4
    refine ⟨h4, ?_⟩
    rcases h5 with ⟨h5, h6, h7⟩ | h5
    · rw [hC lo2 h7] at h5
      exact le_trans h5 (count_mono_below _ _ _ fun i _ hi => by omega)
    · rw [h5] at h4; omega
  · exact ⟨by omega, h.atLeast_row τ hge⟩

end Cert.RowMath
end
-- ==== Proof.Lanes.lean ====
/-
  The vector arithmetic of the threshold kernel, read lane by lane: the running count of a mask, the position a masked
  scatter gives each of its lanes, and what such a scatter leaves in a one-dimensional buffer.
-/
module
public import proofs.«01_k».proof.Proof.RowMath
public import Idealize.ShloMosaic.Lib.SortKey
public import Idealize.ShloMosaic.Lib.SortFacts
public import Idealize.ShloMosaic.PureOps
public import Mathlib.Data.BitVec
@[expose] public section

namespace Cert.Lanes

open Idealize.ShloMosaic Cert.RowMath

/-! ### Words -/

theorem nat_and_xor (a b : ℕ) : 2 * (a &&& b) + (a ^^^ b) = a + b := by
  induction a using Nat.strongRecOn generalizing b with
  | ind a ih =>
    by_cases ha : a = 0
    · subst ha; simp
    · have e := ih (a / 2) (Nat.div_lt_self (Nat.pos_of_ne_zero ha) (by norm_num)) (b / 2)
      have h1 : (a &&& b) / 2 = a / 2 &&& b / 2 := Nat.and_div_two
      have h2 : (a ^^^ b) / 2 = a / 2 ^^^ b / 2 := Nat.xor_div_two
      have h3 : (a &&& b) % 2 = if a % 2 = 1 ∧ b % 2 = 1 then 1 else 0 := by
        have := @Nat.and_mod_two_pow a b 1
        rw [pow_one] at this
        rw [this]
        rcases Nat.mod_two_eq_zero_or_one a with h | h <;> rcases Nat.mod_two_eq_zero_or_one b with h' | h' <;> rw [h, h'] <;> rfl
      have h4 : (a ^^^ b) % 2 = if a % 2 = b % 2 then 0 else 1 := by
        have := @Nat.xor_mod_two_pow a b 1
        rw [pow_one] at this
        rw [this]
        rcases Nat.mod_two_eq_zero_or_one a with h | h <;> rcases Nat.mod_two_eq_zero_or_one b with h' | h' <;> rw [h, h'] <;> rfl
      rw [← h1, ← h2] at e
      split_ifs at h3 h4 <;> omega

/-- The average of two words, rounded down, computed without overflow. -/
def mid (a b : BitVec 32) : BitVec 32 := (a &&& b) + (a ^^^ b).sshiftRight 1

theorem signed_and_xor (p q : Bool) (A B C D : ℕ) (h : 2 * C + D = A + B) :
    2 * (if (p && q) = true then (C : ℤ) - (2 ^ 32 : ℕ) else C) + (if (p ^^ q) = true then (D : ℤ) - (2 ^ 32 : ℕ) else D)
      = (if p = true then (A : ℤ) - (2 ^ 32 : ℕ) else A) + (if q = true then (B : ℤ) - (2 ^ 32 : ℕ) else B) := by
  have h' : 2 * (C : ℤ) + D = A + B := by exact_mod_cast h
  have e : ((2 ^ 32 : ℕ) : ℤ) = 4294967296 := by norm_num
  rw [e]
  cases p <;> cases q
  · show 2 * (C : ℤ) + D = A + B
    omega
  · show 2 * (C : ℤ) + (D - 4294967296) = A + (B - 4294967296)
    omega
  · show 2 * (C : ℤ) + (D - 4294967296) = (A - 4294967296) + B
    omega
  · show 2 * ((C : ℤ) - 4294967296) + D = (A - 4294967296) + (B - 4294967296)
    omega

theorem toInt_bounds (a : BitVec 32) : -2147483648 ≤ a.toInt ∧ a.toInt ≤ 2147483647 := by
  have h1 := BitVec.toInt_lt (x := a)
  have h2 := BitVec.le_toInt (x := a)
  norm_num at h1 h2
  omega

theorem toInt_mid (a b : BitVec 32) : (mid a b).toInt = (a.toInt + b.toInt) / 2 := by
  have hn := nat_and_xor a.toNat b.toNat
  rw [← BitVec.toNat_and, ← BitVec.toNat_xor] at hn
  have key : 2 * (a &&& b).toInt + (a ^^^ b).toInt = a.toInt + b.toInt := by
    rw [BitVec.toInt_eq_msb_cond a, BitVec.toInt_eq_msb_cond b, BitVec.toInt_eq_msb_cond (a &&& b),
      BitVec.toInt_eq_msb_cond (a ^^^ b), BitVec.msb_and, BitVec.msb_xor]
    exact signed_and_xor _ _ _ _ _ _ hn
  have ba := toInt_bounds a
  have bb := toInt_bounds b
  rw [mid, BitVec.toInt_add, BitVec.toInt_sshiftRight, Int.shiftRight_eq_div_pow]
  generalize (a &&& b).toInt = X at key ⊢
  generalize (a ^^^ b).toInt = Y at key ⊢
  generalize a.toInt = A at key ba ⊢
  generalize b.toInt = B at key bb ⊢
  clear hn
  have e : X + Y / ((2 ^ 1 : ℕ) : ℤ) = (A + B) / 2 := by norm_num; omega
  rw [e, Int.bmod_eq_of_le]
  · norm_num; omega
  · norm_num; omega

theorem slt_iff (a b : BitVec 32) : a.slt b = true ↔ a.toInt < b.toInt := BitVec.slt_iff_toInt_lt

theorem cmpi_sgt_eq (a b : BitVec 32) : IntOp.cmpi .sgt a b = if b.toInt < a.toInt then 1 else 0 := by
  unfold IntOp.cmpi
  show BitVec.ofBool (b.slt a) = _
  split_ifs with h
  · rw [(slt_iff b a).2 h]; rfl
  · rw [Bool.eq_false_iff.2 fun hh => h ((slt_iff b a).1 hh)]; rfl

theorem cmpi_sge_eq (a b : BitVec 32) : IntOp.cmpi .sge a b = if b.toInt ≤ a.toInt then 1 else 0 := by
  unfold IntOp.cmpi
  show BitVec.ofBool (b.sle a) = _
  have := @BitVec.sle_iff_toInt_le 32 b a
  split_ifs with h
  · rw [this.2 h]; rfl
  · rw [Bool.eq_false_iff.2 fun hh => h (this.1 hh)]; rfl

theorem cmpi_slt_eq (a b : BitVec 32) : IntOp.cmpi .slt a b = if a.toInt < b.toInt then 1 else 0 := by
  unfold IntOp.cmpi
  show BitVec.ofBool (a.slt b) = _
  split_ifs with h
  · rw [(slt_iff a b).2 h]; rfl
  · rw [Bool.eq_false_iff.2 fun hh => h ((slt_iff a b).1 hh)]; rfl

theorem toInt_ofNat_small (n : ℕ) (h : n < 2 ^ 31) : (BitVec.ofNat 32 n).toInt = n := by
  rw [BitVec.toInt_eq_toNat_cond, BitVec.toNat_ofNat]
  norm_num at *
  omega

theorem toNat_ofNat_small (n : ℕ) (h : n < 2 ^ 32) : (BitVec.ofNat 32 n).toNat = n := by
  rw [BitVec.toNat_ofNat, Nat.mod_eq_of_lt h]

/-! ### The running count of a mask -/

theorem foldl_add (n : ℕ) (l : List (Fin n)) (f : Fin n → BitVec 32) (r : BitVec 32) :
    l.foldl (fun r k => r + f k) r = r + (l.map f).sum := by
  induction l generalizing r with
  | nil => simp
  | cons a l ih => rw [List.foldl_cons, ih, List.map_cons, List.sum_cons, add_assoc]

theorem count_cast (P : ℕ → Prop) [DecidablePred P] (n : ℕ) :
    BitVec.ofNat 32 (Nat.count P n) = ∑ k ∈ Finset.range n, if P k then 1 else 0 := by
  induction n with
  | zero => simp
  | succ n ih =>
    rw [Nat.count_succ, Finset.sum_range_succ, ← ih]
    split_ifs
    · rw [BitVec.ofNat_add]; rfl
    · simp

/-- `tpu.scan` summing a vector of zeros and ones: at each lane the count up to and including it. -/
theorem scan_count {n : ℕ} (v : IVec ⟨1, ![n]⟩ 32) (P : ℕ → Prop) [DecidablePred P]
    (hv : ∀ i : (⟨1, ![n]⟩ : Shape).Idx, v i = if P (i 0).val then 1 else 0) (i : (⟨1, ![n]⟩ : Shape).Idx) :
    scan .sum v i = BitVec.ofNat 32 (Nat.count P ((i 0).val + 1)) := by
  have hi : (i 0).val < n := (i 0).isLt
  have h0 : 0 < n := by omega
  have hvf : ∀ k : Fin n, v (Shape.ofLane (d := ![n]) k) = if P k.val then 1 else 0 := fun k => hv _
  have e : scan .sum v i = ((List.finRange n).filter fun k => decide (0 < k.val ∧ k.val ≤ (i 0).val)).foldl
      (fun r k => r + (if P k.val then 1 else 0)) (if P 0 then 1 else 0) := by
    unfold scan
    have hf : (fun (r : BitVec 32) (k : Fin n) => r + v (Shape.ofLane (d := ![n]) k))
        = fun r k => r + (if P k.val then 1 else 0) := by
      funext r k; rw [hvf k]
    exact congrArg₂ (fun (f : BitVec 32 → Fin n → BitVec 32) r =>
      List.foldl f r ((List.finRange n).filter fun k => decide (0 < k.val ∧ k.val ≤ (i 0).val))) hf (hvf ⟨0, h0⟩)
  have hs : ((((List.finRange n).filter fun k => decide (0 < k.val ∧ k.val ≤ (i 0).val))).map
      fun k : Fin n => if P k.val then (1 : BitVec 32) else 0).sum
      = ∑ k ∈ Finset.range (i 0).val, if P (k + 1) then 1 else 0 := by
    rw [← List.sum_toFinset _ ((List.nodup_finRange n).filter _)]
    refine Finset.sum_bij' (fun k _ => k.val - 1) (fun k hk => ⟨k + 1, by have := Finset.mem_range.mp hk; omega⟩) ?_ ?_ ?_ ?_ ?_
    · intro k hk
      simp only [List.mem_toFinset, List.mem_filter, decide_eq_true_eq] at hk
      exact Finset.mem_range.mpr (by omega)
    · intro k hk
      have := Finset.mem_range.mp hk
      simp only [List.mem_toFinset, List.mem_filter, decide_eq_true_eq, List.mem_finRange, true_and]
      omega
    · intro k hk
      simp only [List.mem_toFinset, List.mem_filter, decide_eq_true_eq] at hk
      exact Fin.ext (by show k.val - 1 + 1 = k.val; omega)
    · intro k _; rfl
    · intro k hk
      simp only [List.mem_toFinset, List.mem_filter, decide_eq_true_eq] at hk
      rw [show k.val - 1 + 1 = k.val by omega]
  rw [e, foldl_add, count_cast, Finset.sum_range_succ', hs, add_comm]

/-! ### A masked scatter into a one-dimensional buffer -/

/-- The entries of a one-dimensional buffer of words, by number; zero past its end. -/
def at1 {n : ℕ} (f : (⟨1, ![n]⟩ : Shape).Idx → BitVec 32) (k : ℕ) : BitVec 32 :=
  if h : k < n then f (Shape.Idx.ofFin ⟨k, h⟩) else 0

theorem at1_apply {n : ℕ} (f : (⟨1, ![n]⟩ : Shape).Idx → BitVec 32) (i : (⟨1, ![n]⟩ : Shape).Idx) : at1 f (i 0).val = f i := by
  unfold at1
  have : (i 0).val < n := (i 0).isLt
  rw [dif_pos this]
  exact congrArg f (Shape.Idx.eq_ofFin i).symm

theorem at1_of_lt {n : ℕ} (f : (⟨1, ![n]⟩ : Shape).Idx → BitVec 32) (k : ℕ) (h : k < n) :
    at1 f k = f (Shape.Idx.ofFin ⟨k, h⟩) := dif_pos h

/-- The fold by which a scatter stores its lanes, lane after lane. -/
theorem fold_store {ι κ α : Type} (l : List κ) (m : κ → Prop) [DecidablePred m] (pos : κ → ι → Prop)
    [∀ k j, Decidable (pos k j)] (v : κ → α) (f : ι → α) (j : ι) :
    ((∀ k ∈ l, m k → ¬ pos k j) →
      l.foldl (fun g k => if m k then (fun j => if pos k j then v k else g j) else g) f j = f j) ∧
    ∀ k ∈ l, m k → pos k j → (∀ k' ∈ l, m k' → pos k' j → v k' = v k) →
      l.foldl (fun g k => if m k then (fun j => if pos k j then v k else g j) else g) f j = v k := by
  induction l generalizing f with
  | nil => exact ⟨fun _ => rfl, fun k hk => by simp at hk⟩
  | cons a l ih =>
    constructor
    · intro h
      rw [List.foldl_cons, (ih _).1 fun k hk => h k (List.mem_cons_of_mem a hk)]
      split_ifs with hm
      · exact if_neg (h a List.mem_cons_self hm)
      · rfl
    · intro k hk hm hp hu
      rw [List.foldl_cons]
      by_cases hl : ∃ k' ∈ l, m k' ∧ pos k' j
      · obtain ⟨k', hk', hm', hp'⟩ := hl
        rw [(ih _).2 k' hk' hm' hp' fun k'' hk'' hm'' hp'' => (hu k'' (List.mem_cons_of_mem a hk'') hm'' hp'').trans
          (hu k' (List.mem_cons_of_mem a hk') hm' hp').symm]
        exact hu k' (List.mem_cons_of_mem a hk') hm' hp'
      · rw [(ih _).1 fun k' hk' hm' hp' => hl ⟨k', hk', hm', hp'⟩]
        rcases List.mem_cons.mp hk with rfl | hk
        · rw [if_pos hm, if_pos hp]
        · exact absurd ⟨k, hk, hm, hp⟩ hl

variable {F : FTy → Type} [BitOps F]

theorem storeIdx_miss {N : ℕ} {e : EltTy} (f : Vec F ⟨1, ![N]⟩ e) (idxs : IVec ⟨1, ![16]⟩ 32) (v : Vec F ⟨1, ![16]⟩ e)
    (mask : IVec ⟨1, ![16]⟩ 1) (h : ∀ a x, ((![idxs] : Fin 1 → IVec ⟨1, ![16]⟩ 32) a x).toNat < (⟨1, ![N]⟩ : Shape).size a)
    (j : (⟨1, ![N]⟩ : Shape).Idx) (hj : ∀ x, mask x = 1 → (j 0).val ≠ (idxs x).toNat) :
    storeIdx f ![idxs] v mask false h j = f j := by
  classical
  have := (fold_store (List.finRange 16) (fun k => mask (Shape.ofLane (d := ![16]) k) = 1)
    (fun k (j : (⟨1, ![N]⟩ : Shape).Idx) => ∀ a, (j a).val = (idxAt ![idxs] h (Shape.ofLane (d := ![16]) k) a).val)
    (fun k => v (Shape.ofLane (d := ![16]) k)) f j).1 fun k _ hm hp => hj _ hm (hp 0)
  exact this

theorem storeIdx_hit {N : ℕ} {e : EltTy} (f : Vec F ⟨1, ![N]⟩ e) (idxs : IVec ⟨1, ![16]⟩ 32) (v : Vec F ⟨1, ![16]⟩ e)
    (mask : IVec ⟨1, ![16]⟩ 1) (h : ∀ a x, ((![idxs] : Fin 1 → IVec ⟨1, ![16]⟩ 32) a x).toNat < (⟨1, ![N]⟩ : Shape).size a)
    (j : (⟨1, ![N]⟩ : Shape).Idx) (x : (⟨1, ![16]⟩ : Shape).Idx) (hm : mask x = 1) (hx : (j 0).val = (idxs x).toNat)
    (hu : ∀ x', mask x' = 1 → (idxs x').toNat = (idxs x).toNat → v x' = v x) :
    storeIdx f ![idxs] v mask false h j = v x := by
  classical
  have hk : Shape.ofLane (d := ![16]) (x 0) = x := by
    funext a
    have : a = 0 := Subsingleton.elim _ _
    subst this
    rfl
  have := (fold_store (List.finRange 16) (fun k => mask (Shape.ofLane (d := ![16]) k) = 1)
    (fun k (j : (⟨1, ![N]⟩ : Shape).Idx) => ∀ a, (j a).val = (idxAt ![idxs] h (Shape.ofLane (d := ![16]) k) a).val)
    (fun k => v (Shape.ofLane (d := ![16]) k)) f j).2 (x 0) (List.mem_finRange _) (by rw [hk]; exact hm)
    (fun a => by
      have : a = 0 := Subsingleton.elim _ _
      subst this
      show (j 0).val = (idxs (Shape.ofLane (d := ![16]) (x 0))).toNat
      rw [hk]; exact hx)
    (fun k' _ hm' hp' => by
      rw [hk]
      exact hu _ hm' ((hp' 0).symm.trans hx))
  rw [hk] at this
  exact this

/-- A scatter at the running positions of its mask packs its sixteen lanes behind what is packed already. -/
theorem packed_store {N : ℕ} (p : ℕ → Prop) [DecidablePred p] (f : ℕ → BitVec 32)
    (old new : (⟨1, ![N]⟩ : Shape).Idx → BitVec 32) (n : ℕ) (hold : Packed p f (at1 old) n)
    (hN : Nat.count p (n + 16) ≤ N)
    (hmiss : ∀ j : (⟨1, ![N]⟩ : Shape).Idx, (∀ l < 16, p (n + l) → (j 0).val ≠ Nat.count p (n + l)) → new j = old j)
    (hhit : ∀ (j : (⟨1, ![N]⟩ : Shape).Idx) (l : ℕ), l < 16 → p (n + l) → (j 0).val = Nat.count p (n + l) → new j = f (n + l)) :
    Packed p f (at1 new) (n + 16) ∧
      ∀ k, (k < Nat.count p n ∨ Nat.count p (n + 16) ≤ k) → at1 new k = at1 old k := by
  have hlt : ∀ l < 16, p (n + l) → Nat.count p (n + l) < Nat.count p (n + 16) := fun l hl hp => by
    have h1 : Nat.count p (n + l + 1) ≤ Nat.count p (n + 16) := Nat.count_monotone p (by omega)
    rw [Nat.count_succ, if_pos hp] at h1
    omega
  have hkeep : ∀ k, (k < Nat.count p n ∨ Nat.count p (n + 16) ≤ k) → at1 new k = at1 old k := by
    intro k hk
    unfold at1
    split_ifs with h
    · refine hmiss _ fun l hl hp e => ?_
      have e : k = Nat.count p (n + l) := e
      have h1 : Nat.count p n ≤ Nat.count p (n + l) := Nat.count_monotone p (by omega)
      have := hlt l hl hp
      omega
    · rfl
  refine ⟨fun i hi hp => ?_, hkeep⟩
  by_cases hin : i < n
  · have h1 : Nat.count p i < Nat.count p n := by
      have : Nat.count p (i + 1) ≤ Nat.count p n := Nat.count_monotone p (by omega)
      rw [Nat.count_succ, if_pos hp] at this
      omega
    rw [hkeep _ (Or.inl h1)]
    exact hold i hin hp
  · obtain ⟨l, rfl⟩ : ∃ l, i = n + l := ⟨i - n, by omega⟩
    have := hlt l (by omega) hp
    rw [at1_of_lt new _ (by omega)]
    exact hhit _ l (by omega) hp rfl

end Cert.Lanes
end
-- ==== Proof.Payloads.lean ====
/-
  The vectors the threshold kernel computes between its memory operations, on bit patterns: a bisection's midpoint, the
  count of a register's keys above it, the masks, the positions and values of the two packing scatters, and the word stored.
-/
module
public import proofs.«01_k».proof.Proof.Lanes
public import proofs.«01_k».proof.Proof.Gen.Kernel.Skeleton
@[expose] public section

noncomputable section

namespace Cert.Payloads

open Idealize.ShloMosaic Cert.RowMath Cert.Lanes Cert.Kernel Cert.Kernel.Gen

/-- The signed sort key of a word, as an integer. -/
def key (w : BitVec 32) : ℤ := (sortableKey w).toInt

/-- A register holding one word in every lane. -/
abbrev splat (w : BitVec 32) : IVec S16 32 := fun _ => w

theorem shrsi_31 (w : BitVec 32) : IntOp.xori w (IntOp.andi (IntOp.shrsi .vector w 31#32) 2147483647#32) = sortableKey w :=
  xori_andi_shrsi_eq_sortableKey .vector w

theorem mid_eq (a b : BitVec 32) :
    IntOp.addi (IntOp.andi a b) (IntOp.shrsi .vector (IntOp.xori a b) 1#32) = mid a b := by
  unfold IntOp.shrsi
  rw [if_pos (by decide)]
  rfl

theorem pay1_splat (a b : BitVec 32) : k0_pay1 (splat a) (splat b) = splat (mid a b) := funext fun _ => mid_eq a b

theorem pay14_splat (a b : BitVec 32) : k0_pay14 (splat a) (splat b) = splat (mid a b) := funext fun _ => mid_eq a b

/-- The mask's ones and zeros, summed along the lanes. -/
theorem scan_mask (m : IVec S16 1) (P : ℕ → Prop) [DecidablePred P] (hm : ∀ i : S16.Idx, m i = if P (i 0).val then 1 else 0)
    (i : S16.Idx) :
    scan .sum (select m (broadcast S16 1#32) (broadcast S16 0#32)) i = BitVec.ofNat 32 (Nat.count P ((i 0).val + 1)) := by
  refine scan_count (n := 16) _ P (fun i => ?_) i
  show Scalar.select (m i) 1#32 0#32 = _
  unfold Scalar.select
  rw [hm i]
  split_ifs <;> first | rfl | simp_all

/-- The scan's last lane: the count of the whole register. -/
theorem scan_mask_last (m : IVec S16 1) (P : ℕ → Prop) [DecidablePred P] (hm : ∀ i : S16.Idx, m i = if P (i 0).val then 1 else 0)
    (h : ∀ a, (![15] : Fin 1 → ℕ) a < S16.size a) :
    extractAt ![15] (scan .sum (select m (broadcast S16 1#32) (broadcast S16 0#32))) h = BitVec.ofNat 32 (Nat.count P 16) :=
  scan_mask m P hm _

/-- The lanes of a register whose key exceeds `x`. -/
def over (x : ℤ) (v : FVec Bits S16 .f32) (l : ℕ) : Prop := x < key (at1 (n := 16) v l)

instance (x : ℤ) (v : FVec Bits S16 .f32) : DecidablePred (over x v) := fun _ => Int.decLt _ _

theorem sgt_mask (x : BitVec 32) (v : FVec Bits S16 .f32) (i : S16.Idx) :
    IntOp.cmpi .sgt (IntOp.xori (v i) (IntOp.andi (IntOp.shrsi .vector (v i) 31#32) 2147483647#32)) x
      = if over x.toInt v (i 0).val then 1 else 0 := by
  rw [shrsi_31, cmpi_sgt_eq]
  have e : over x.toInt v (i 0).val ↔ x.toInt < (sortableKey (v i)).toInt := by
    unfold over key
    rw [at1_apply (n := 16) v i]
  by_cases h : x.toInt < (sortableKey (v i)).toInt
  · rw [if_pos h, if_pos (e.2 h)]
  · rw [if_neg h, if_neg fun hh => h (e.1 hh)]

/-- The mask of the lanes whose key exceeds `x`, as the kernel computes it. -/
def overMask (x : BitVec 32) (v : FVec Bits S16 .f32) : IVec S16 1 :=
  cmpi .sgt (xori (bitcastToInt v) (andi (shrsi (bitcastToInt v) (broadcast S16 31#32)) (broadcast S16 2147483647#32))) (splat x)

theorem overMask_apply (x : BitVec 32) (v : FVec Bits S16 .f32) (i : S16.Idx) :
    overMask x v i = if over x.toInt v (i 0).val then 1 else 0 := sgt_mask x v i

/-- The number of lanes a mask keeps, as the kernel computes it. -/
def lanesKept (m : IVec S16 1) : BitVec 32 :=
  extractAt ![15] (scan .sum (select m (broadcast S16 1#32) (broadcast S16 0#32))) inpos_S16_p15

theorem lanesKept_eq (m : IVec S16 1) (P : ℕ → Prop) [DecidablePred P] (hm : ∀ i : S16.Idx, m i = if P (i 0).val then 1 else 0) :
    lanesKept m = BitVec.ofNat 32 (Nat.count P 16) := scan_mask_last m P hm inpos_S16_p15

/-- The number of lanes whose key exceeds the register `x`, as the kernel computes it. -/
def lanesOver (x : IVec S16 32) (v : FVec Bits S16 .f32) : BitVec 32 :=
  extractAt ![15] (scan .sum (select (cmpi .sgt (xori (bitcastToInt v) (andi (shrsi (bitcastToInt v) (broadcast S16 31#32))
    (broadcast S16 2147483647#32))) x) (broadcast S16 1#32) (broadcast S16 0#32))) inpos_S16_p15

theorem lanesOver_eq (y : IVec S16 32) (x : BitVec 32) (v : FVec Bits S16 .f32) (hy : y = splat x) :
    lanesOver y v = BitVec.ofNat 32 (Nat.count (over x.toInt v) 16) := by
  subst hy
  exact scan_mask_last (overMask x v) (over x.toInt v) (overMask_apply x v) inpos_S16_p15

theorem pay15_eq (A B C : IVec S16 32) (v : FVec Bits S16 .f32) :
    k0_pay15 (F := Bits) A B C v = addi C (broadcast S16 (lanesOver (k0_pay14 A B) v)) := rfl

theorem pay15_splat (a b acc : BitVec 32) (v : FVec Bits S16 .f32) :
    k0_pay15 (F := Bits) (splat a) (splat b) (splat acc) v
      = splat (acc + BitVec.ofNat 32 (Nat.count (over (mid a b).toInt v) 16)) := by
  rw [pay15_eq, lanesOver_eq (k0_pay14 (splat a) (splat b)) (mid a b) v (pay14_splat a b)]
  rfl

theorem pay2_eq (A B C : IVec S16 32) (v : FVec Bits S16 .f32) :
    k0_pay2 (F := Bits) A B C v = addi C (broadcast S16 (lanesOver (k0_pay1 A B) v)) := rfl

theorem pay2_splat (a b acc : BitVec 32) (v : FVec Bits S16 .f32) :
    k0_pay2 (F := Bits) (splat a) (splat b) (splat acc) v
      = splat (acc + BitVec.ofNat 32 (Nat.count (over (mid a b).toInt v) 16)) := by
  rw [pay2_eq, lanesOver_eq (k0_pay1 (splat a) (splat b)) (mid a b) v (pay1_splat a b)]
  rfl

theorem pay24_splat (x : BitVec 32) (v : FVec Bits S16 .f32) (i : S16.Idx) :
    k0_pay24 (F := Bits) (splat x) v i = if over x.toInt v (i 0).val then 1 else 0 := sgt_mask x v i

theorem sge_64 (c : ℕ) (hc : c < 2 ^ 31) : IntOp.cmpi .sge (BitVec.ofNat 32 c) 64#32 = if 64 ≤ c then 1 else 0 := by
  rw [cmpi_sge_eq, toInt_ofNat_small c hc, show (64#32).toInt = 64 from by decide]
  congr 1
  exact propext ⟨fun h => by exact_mod_cast h, fun h => by exact_mod_cast h⟩

theorem select_sge (c : ℕ) (hc : c < 2 ^ 31) (a b : BitVec 32) :
    Scalar.select (IntOp.cmpi .sge (BitVec.ofNat 32 c) 64#32) a b = if 64 ≤ c then a else b := by
  rw [sge_64 c hc]
  unfold Scalar.select
  split_ifs <;> first | rfl | simp_all

theorem pay17_splat (a b : BitVec 32) (c : ℕ) (hc : c < 2 ^ 31) :
    k0_pay17 (splat a) (splat b) (splat (BitVec.ofNat 32 c)) = splat (if 64 ≤ c then mid a b else a) := by
  funext i
  unfold k0_pay17
  rw [pay14_splat]
  exact select_sge c hc _ _

theorem pay18_splat (a b : BitVec 32) (c : ℕ) (hc : c < 2 ^ 31) :
    k0_pay18 (splat a) (splat b) (splat (BitVec.ofNat 32 c)) = splat (if 64 ≤ c then b else mid a b) := by
  funext i
  unfold k0_pay18
  rw [pay14_splat]
  exact select_sge c hc _ _

theorem pay5_splat (a b : BitVec 32) (c : ℕ) (hc : c < 2 ^ 31) :
    k0_pay5 (splat 64#32) (splat a) (splat b) (splat (BitVec.ofNat 32 c)) = splat (if 64 ≤ c then mid a b else a) := by
  funext i
  unfold k0_pay5
  rw [pay1_splat]
  exact select_sge c hc _ _

theorem pay6_splat (a b : BitVec 32) (c : ℕ) (hc : c < 2 ^ 31) :
    k0_pay6 (splat 64#32) (splat a) (splat b) (splat (BitVec.ofNat 32 c)) = splat (if 64 ≤ c then b else mid a b) := by
  funext i
  unfold k0_pay6
  rw [pay1_splat]
  exact select_sge c hc _ _

/-- The exclusive running position of a lane. -/
theorem position (m : IVec S16 1) (P : ℕ → Prop) [DecidablePred P] (hm : ∀ i : S16.Idx, m i = if P (i 0).val then 1 else 0)
    (o : ℕ) (i : S16.Idx) :
    IntOp.subi (IntOp.addi (BitVec.ofNat 32 o) (scan .sum (select m (broadcast S16 1#32) (broadcast S16 0#32)) i))
      (select m (broadcast S16 1#32) (broadcast S16 0#32) i) = BitVec.ofNat 32 (o + Nat.count P (i 0).val) := by
  rw [scan_mask m P hm i, Nat.count_succ]
  show BitVec.ofNat 32 o + BitVec.ofNat 32 _ - Scalar.select (m i) 1#32 0#32 = _
  unfold Scalar.select
  rw [hm i]
  by_cases h : P (i 0).val
  · rw [if_pos h, if_pos h, if_pos rfl, BitVec.ofNat_add, BitVec.ofNat_add, ← add_assoc]
    exact BitVec.add_sub_cancel _ _
  · rw [if_neg h, if_neg h, if_neg (by decide), Nat.add_zero, BitVec.ofNat_add]
    exact BitVec.sub_zero _

theorem pay25_splat (x : BitVec 32) (o : ℕ) (v : FVec Bits S16 .f32) (i : S16.Idx) :
    k0_pay25 (F := Bits) (splat x) (BitVec.ofNat 32 o) v i = BitVec.ofNat 32 (o + Nat.count (over x.toInt v) (i 0).val) :=
  position (k0_pay24 (F := Bits) (splat x) v) (over x.toInt v) (pay24_splat x v) o i

theorem slice_broadcast (w : BitVec 32) : extractStridedSlice S1 ![0] (broadcast S16 w) slices_S16_o0_S1 = broadcast S1 w := rfl

theorem extract_broadcast (w : BitVec 32) (h : ∀ a, (![0] : Fin 1 → ℕ) a < S1.size a) : extractAt ![0] (broadcast S1 w) h = w := rfl

theorem pay27_kept (x : IVec S16 32) (v : FVec Bits S16 .f32) :
    k0_pay27 (F := Bits) x v = extractStridedSlice S1 ![0] (broadcast S16 (lanesKept (k0_pay24 (F := Bits) x v))) slices_S16_o0_S1 := rfl

theorem pay30_kept (m : IVec S16 1) :
    k0_pay30 m = extractStridedSlice S1 ![0] (broadcast S16 (lanesKept m)) slices_S16_o0_S1 := rfl

theorem pay27_splat (x : BitVec 32) (v : FVec Bits S16 .f32) (h : ∀ a, (![0] : Fin 1 → ℕ) a < S1.size a) :
    extractAt ![0] (k0_pay27 (F := Bits) (splat x) v) h = BitVec.ofNat 32 (Nat.count (over x.toInt v) 16) :=
  ((congrArg (fun y => extractAt ![0] y h) ((pay27_kept _ v).trans (slice_broadcast _))).trans (extract_broadcast _ h)).trans
    (lanesKept_eq (k0_pay24 (F := Bits) (splat x) v) (over x.toInt v) (pay24_splat x v))

theorem iv_eq (n : ℕ) : Scf.iv 0#32 1#32 n = BitVec.ofNat 32 n := by
  unfold Scf.iv
  rw [BitVec.zero_add]
  exact BitVec.mul_one _

theorem pay26_eq (base : ℕ) (t : Fin k0_t3_loop.trips) (i : S16.Idx) :
    k0_pay26 (iota .scVector S16 32 [0] iota_S16_d0_w32_scVector) (BitVec.ofNat 32 base) 0#32 t i
      = BitVec.ofNat 32 (base + (16 * t.val + (i 0).val)) := by
  show IntOp.addi (IntOp.addi (BitVec.ofNat 32 base) (IntOp.muli (Scf.iv 0#32 1#32 t.val) 16#32)) (BitVec.ofNat 32 (0 * _ + (i 0).val)) = _
  rw [iv_eq]
  show BitVec.ofNat 32 base + BitVec.ofNat 32 t.val * BitVec.ofNat 32 16 + BitVec.ofNat 32 _ = _
  rw [← BitVec.ofNat_mul, ← BitVec.ofNat_add, ← BitVec.ofNat_add]
  congr 1
  omega

theorem pay28_eq (nc : ℕ) (hnc : nc < 2 ^ 31) (t : Fin k0_t4_loop.trips) (ht : t.val < 64) :
    k0_pay28 (BitVec.ofNat 32 nc) t = fun _ => if t.val < nc then 1 else 0 := by
  funext i
  show IntOp.cmpi .sgt (Scalar.select (IntOp.cmpi .slt (Scf.iv 0#32 1#32 t.val) (BitVec.ofNat 32 nc)) 1#32 0#32) 0#32 = _
  rw [iv_eq, cmpi_slt_eq, toInt_ofNat_small _ hnc, toInt_ofNat_small _ (by omega)]
  by_cases h : t.val < nc
  · rw [if_pos h, if_pos (by exact_mod_cast h)]; rfl
  · rw [if_neg h, if_neg (by exact_mod_cast h)]; rfl

/-- The lanes the second packing keeps: the chunk is listed and the key exceeds `x`. -/
def keeps (b : Prop) (x : ℤ) (v : FVec Bits S16 .f32) (l : ℕ) : Prop := b ∧ over x v l

instance (b : Prop) [Decidable b] (x : ℤ) (v : FVec Bits S16 .f32) : DecidablePred (keeps b x v) := fun _ => instDecidableAnd

theorem pay9_eq (b : Prop) [Decidable b] (x : BitVec 32) (ld : FVec Bits S1x1x16 .f32) (i : S16.Idx) :
    k0_pay9 (F := Bits) (splat x) (fun _ => if b then 1 else 0) ld i
      = if keeps b x.toInt (k0_pay8 (F := Bits) ld) (i 0).val then 1 else 0 := by
  show IntOp.andi (IntOp.cmpi .sgt (IntOp.xori (k0_pay8 (F := Bits) ld i) (IntOp.andi (IntOp.shrsi .vector (k0_pay8 (F := Bits) ld i) 31#32) 2147483647#32)) x) _ = _
  rw [sgt_mask]
  unfold keeps
  by_cases hb : b <;> by_cases ho : over x.toInt (k0_pay8 (F := Bits) ld) (i 0).val <;> simp only [hb, ho, if_true, if_false, true_and, false_and] <;> rfl

theorem pay29_eq (m : IVec S16 1) (P : ℕ → Prop) [DecidablePred P] (hm : ∀ i : S16.Idx, m i = if P (i 0).val then 1 else 0)
    (o : ℕ) (i : S16.Idx) :
    k0_pay29 (BitVec.ofNat 32 o) m 1#32 0#32 i = BitVec.ofNat 32 (o + Nat.count P (i 0).val) :=
  position m P hm o i

theorem pay30_eq (m : IVec S16 1) (P : ℕ → Prop) [DecidablePred P] (hm : ∀ i : S16.Idx, m i = if P (i 0).val then 1 else 0)
    (h : ∀ a, (![0] : Fin 1 → ℕ) a < S1.size a) :
    extractAt ![0] (k0_pay30 m) h = BitVec.ofNat 32 (Nat.count P 16) :=
  ((congrArg (fun y => extractAt ![0] y h) ((pay30_kept m).trans (slice_broadcast _))).trans (extract_broadcast _ h)).trans
    (lanesKept_eq m P hm)

theorem pay31_splat (x : BitVec 32) : k0_pay31 (F := Bits) (splat x) = fun _ => sortableKey x :=
  funext fun _ => shrsi_31 x

theorem pay7_splat (x y : BitVec 32) (c : ℕ) (hc : c < 2 ^ 31) :
    k0_pay7 (F := Bits) (splat x) (BitVec.ofNat 32 c) (splat y) = fun _ => sortableKey (if 64 ≤ c then y else x) := by
  funext i
  have e : select (cmpi .sgt (broadcast S16 (Scalar.select (Scalar.cmpi .sge (BitVec.ofNat 32 c) 64#32) 1#32 0#32)) (broadcast S16 0#32))
      (splat y) (splat x) i = if 64 ≤ c then y else x := by
    show Scalar.select (IntOp.cmpi .sgt (Scalar.select (IntOp.cmpi .sge (BitVec.ofNat 32 c) 64#32) 1#32 0#32) 0#32) y x = _
    rw [select_sge c hc]
    split_ifs <;> rfl
  refine Eq.trans ?_ (congrArg sortableKey e)
  exact shrsi_31 _

end Cert.Payloads
end
-- ==== Proof.TileBase.lean ====
/-
  The threshold kernel's task on one vector subcore: the names its memory goes by, and what a sixteen-lane access of a
  one-dimensional scratch buffer reads and writes.
-/
module
public import proofs.«01_k».proof.Defs
public import proofs.«01_k».proof.Proof.Payloads
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.Kernel
@[expose] public section

noncomputable section

namespace Cert.Tile

open Cert.Kernel Cert.Kernel.Gen Cert.RowMath Cert.Lanes Cert.Payloads
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

abbrev UH : Type := URounds (GSem nD τ sig) ℕ
abbrev UU : Type := UH × Counters

local notation "𝕄" => MT nD τ sig (HIx 1) (Elt Bits) ℕ UU ℕ

abbrev 𝒱₀ : Variants := Variants.none

/-- The SparseCore and the subcore a grid point runs on, and the thread there. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! The operands as a task names them: the table of chunks, the chunk maxima, the result, and the scratch. -/
abbrev gV : Memref sig Kind.scVector Space.hbm S200000x2x128 EltTy.f32 := Memref.whole main_v11_scv
abbrev mV : Memref sig Kind.scVector Space.hbm S32x6256 EltTy.f32 := Memref.whole main_v17_scv
abbrev oV : Memref sig Kind.scVector Space.hbm S32x16 EltTy.f32 := Memref.whole main_v18_scv
abbrev maxV : Memref sig Kind.scVector Space.vmem S6256 EltTy.f32 := Memref.whole cc0_scratch0
abbrev packV : Memref sig Kind.scVector Space.vmem S80 EltTy.i32 := Memref.whole cc0_scratch1
abbrev listV : Memref sig Kind.scVector Space.vmem S64 EltTy.i32 := Memref.whole cc0_scratch2
abbrev rowsV : Memref sig Kind.scVector Space.vmem S64x2x128 EltTy.f32 := Memref.whole cc0_scratch3
abbrev candV : Memref sig Kind.scVector Space.vmem S10112 EltTy.f32 := Memref.whole cc0_scratch4
abbrev outV : Memref sig Kind.scVector Space.vmem S16 EltTy.f32 := Memref.whole cc0_scratch5
abbrev spareV : Memref sig Kind.scVector Space.vmem S16 EltTy.i32 := Memref.whole cc0_scratch6

/-! Where a task's scratch buffers live. -/
abbrev maxL (d : Dev nD) (L : grid0.Coords) : Loc nD τ sig := (thr d L).loc cc0_scratch0
abbrev packL (d : Dev nD) (L : grid0.Coords) : Loc nD τ sig := (thr d L).loc cc0_scratch1
abbrev listL (d : Dev nD) (L : grid0.Coords) : Loc nD τ sig := (thr d L).loc cc0_scratch2
abbrev rowsL (d : Dev nD) (L : grid0.Coords) : Loc nD τ sig := (thr d L).loc cc0_scratch3
abbrev candL (d : Dev nD) (L : grid0.Coords) : Loc nD τ sig := (thr d L).loc cc0_scratch4
abbrev outL (d : Dev nD) (L : grid0.Coords) : Loc nD τ sig := (thr d L).loc cc0_scratch5

/-- A task's weakest precondition. -/
abbrev tileWp (d : Dev nD) (L : grid0.Coords) {α : Type}
    (p : Prog (TpuEff nD τ sig (Elt Bits) Λ₀ (.scVector (cV L) (jV L))) α) (Q : α → sProp 𝕄) : sProp 𝕄 :=
  wp frame (wpE (defs₀ (F := Bits)) 𝒱₀ (thr d L) none) Set.univ p Q

/-! ## Sixteen lanes of a one-dimensional buffer -/

/-- Lane `l` of the sixteen loaded at `o` is the buffer's word `o + l`. -/
theorem at1_window {N o : ℕ} (f : (⟨1, ![N]⟩ : Shape).Idx → BitVec 32) (off : Fin 1 → ℕ) (ho : off 0 = o)
    (h : ∀ a, off a + S16.size a ≤ (⟨1, ![N]⟩ : Shape).size a) (l : ℕ) (hl : l < 16) :
    at1 (n := 16) (fun x : S16.Idx => f ((Rect.unit (s := ⟨1, ![N]⟩) off S16.size h).toLoadRect.idx x)) l = at1 f (o + l) := by
  have hN : o + 16 ≤ N := by have := h 0; rw [ho] at this; exact this
  rw [at1_of_lt _ l hl, at1_of_lt _ (o + l) (by omega)]
  congr 1
  funext a
  obtain rfl : a = 0 := Subsingleton.elim _ _
  apply Fin.ext
  show off 0 + 1 * l = o + l
  omega

end Cert.Tile

end
-- ==== Proof.TileChunk.lean ====
/-
  The threshold kernel's first bisection: the loop counting the chunk maxima above a midpoint, and the bisection round it.
-/
module
public import proofs.«01_k».proof.Proof.TileBase
@[expose] public section

noncomputable section

namespace Cert.Tile

open Cert.Kernel Cert.Kernel.Gen Cert.RowMath Cert.Lanes Cert.Payloads
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

variable (d : Dev nD) (L : grid0.Coords)

/-- The keys of a one-dimensional buffer of words. -/
abbrev keys {n : ℕ} (f : (⟨1, ![n]⟩ : Shape).Idx → BitVec 32) : ℕ → ℤ := fun k => key (at1 f k)

/-- Counting one more block of sixteen. -/
theorem above_block {n : ℕ} (f : (⟨1, ![n]⟩ : Shape).Idx → BitVec 32) (x : ℤ) (v : FVec Bits S16 .f32) (k : ℕ)
    (hv : ∀ l < 16, at1 (n := 16) v l = at1 f (16 * k + l)) :
    above (keys f) (16 * k) x + Nat.count (over x v) 16 = above (keys f) (16 * (k + 1)) x := by
  unfold above
  rw [show 16 * (k + 1) = 16 * k + 16 from by omega, Nat.count_add]
  congr 1
  refine count_congr_below _ _ _ (fun l hl => ?_)
  unfold over keys
  rw [hv l hl]

/-- The counting loop over the chunk maxima. -/
abbrev countMaxima (a b : IVec S16 32) :=
  Scf.Loop.for k0_t2_loop k0_t2_ok k0_pay10 (k0_t2_body (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1 a b)

theorem t2_trips : k0_t2_loop.trips = 391 := by decide

theorem countMaxima_wp (f : Buf (Elt Bits) (maxL d L)) (lo hi : BitVec 32) :
    (maxL d L ↦{fullShare} f : sProp 𝕄)
      ⊢ tileWp d L (countMaxima L (splat lo) (splat hi))
          fun acc => iprop(⌜acc = splat (BitVec.ofNat 32 (above (keys (n := 6256) f) 6256 (mid lo hi).toInt))⌝ ∗ maxL d L ↦{fullShare} f) := by
  unfold countMaxima tileWp
  iintro H
  iapply (Scf.wp_for frame (wpE (defs₀ (F := Bits)) 𝒱₀ (thr d L) none) Set.univ _ _ _ _ _ _
    (fun k acc => iprop(⌜acc = splat (BitVec.ofNat 32 (above (keys (n := 6256) f) (16 * k) (mid lo hi).toInt))⌝ ∗ maxL d L ↦{fullShare} f)) ?body)
  case body =>
    intro k acc
    iintro ⟨%hacc, H⟩
    subst hacc
    unfold k0_t2_body; simp only [Prog.bind_lift, Prog.pure_eq_ret]
    iapply (wp_load 𝒱₀ (thr d L) none Set.univ (m := maxV) (S := Finset.univ) (Finset.subset_univ _)) $$ H
    iintro H
    sl_step
    isplitr
    · ipureintro
      rw [pay15_splat]
      rw [← BitVec.ofNat_add, above_block (n := 6256) f _ _ k.val]
      intro l hl
      rw [← at1_window (N := 6256) (o := 16 * k.val) f (k0_off2 k) (by rw [k0_off2_eq]; rfl) (k0_off2_inb k) l hl]
      rfl
    · iexact H
  isplitl [H]
  · isplitr
    · ipureintro; rfl
    · iexact H
  · iintro %acc ⟨%hacc, H⟩
    isplitr
    · ipureintro; exact hacc
    · iexact H

/-- The first bisection, over the chunk maxima. -/
abbrev bisectMaxima :=
  Scf.Loop.for k0_t1_loop k0_t1_ok (k0_pay12, k0_pay13) (k0_t1_body (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1)

theorem t1_trips : k0_t1_loop.trips = 32 := by decide

/-- The count fits a signed word. -/
theorem above_small (K : ℕ → ℤ) (n : ℕ) (x : ℤ) : above K n x ≤ n := Nat.count_le _

/-- No key exceeds the largest word. -/
theorem above_top {n : ℕ} (f : (⟨1, ![n]⟩ : Shape).Idx → BitVec 32) (k : ℕ) : above (keys f) k (2147483647#32).toInt = 0 := by
  refine count_eq_zero_below _ _ fun i _ h => ?_
  have := (toInt_bounds (sortableKey (at1 f i))).2
  rw [show (2147483647#32).toInt = 2147483647 from by decide] at h
  unfold keys key at h
  omega

/-- What a bisection carries: its two bounds, each in every lane. -/
def Carried (C : ℤ → ℕ) (low : ℤ) (k : ℕ) (acc : IVec S16 32 × IVec S16 32) : Prop :=
  ∃ lo hi : BitVec 32, acc = (splat lo, splat hi) ∧ Bisecting C low k lo.toInt hi.toInt

theorem Carried.step {C : ℤ → ℕ} {low : ℤ} {k : ℕ} {lo hi : BitVec 32} (h : Bisecting C low k lo.toInt hi.toInt) (hk : k < 32)
    (c : ℕ) (hc : c = C (mid lo hi).toInt) :
    Carried C low (k + 1) (splat (if 64 ≤ c then mid lo hi else lo), splat (if 64 ≤ c then hi else mid lo hi)) := by
  refine ⟨_, _, rfl, ?_⟩
  have := h.step hk (mid := (mid lo hi).toInt) (toInt_mid lo hi)
  rw [← hc] at this
  split_ifs at this ⊢ <;> exact this

theorem bisectMaxima_wp (f : Buf (Elt Bits) (maxL d L)) :
    (maxL d L ↦{fullShare} f : sProp 𝕄)
      ⊢ tileWp d L (bisectMaxima L)
          fun acc => iprop(⌜Carried (above (keys (n := 6256) f) 6256) (-2 ^ 31) 32 acc⌝ ∗ maxL d L ↦{fullShare} f) := by
  unfold bisectMaxima tileWp
  iintro H
  iapply (Scf.wp_for frame (wpE (defs₀ (F := Bits)) 𝒱₀ (thr d L) none) Set.univ _ _ _ _ _ _
    (fun k acc => iprop(⌜Carried (above (keys (n := 6256) f) 6256) (-2 ^ 31) k acc⌝ ∗ maxL d L ↦{fullShare} f)) ?body)
  case body =>
    intro k acc
    iintro ⟨%hacc, H⟩
    obtain ⟨lo, hi, rfl, hb⟩ := hacc
    unfold k0_t1_body
    simp only [wp_bind]
    iapply (wp_wand_r frame (wpE (defs₀ (F := Bits)) 𝒱₀ (thr d L) none) Set.univ)
    isplitl [H]
    · iapply (countMaxima_wp d L f lo hi); iexact H
    · iintro %acc ⟨%hc, H⟩
      subst hc
      simp only [Prog.pure_eq_ret]
      sl_step
      isplitr
      · ipureintro
        have hs : above (keys (n := 6256) f) 6256 (mid lo hi).toInt < 2 ^ 31 := by have := above_small (keys (n := 6256) f) 6256 (mid lo hi).toInt; omega
        rw [pay17_splat _ _ _ hs, pay18_splat _ _ _ hs]
        exact Carried.step hb (lt_of_lt_of_eq k.isLt t1_trips) _ rfl
      · iexact H
  isplitl [H]
  · isplitr
    · ipureintro
      refine ⟨2147483648#32, 2147483647#32, rfl, ?_⟩
      exact Bisecting.start _ _ _ (by decide) (by decide) (lt_of_eq_of_lt (above_top _ _) (by decide))
    · iexact H
  · iintro %acc ⟨%hacc, H⟩
    isplitr
    · ipureintro; exact hacc
    · iexact H

end Cert.Tile

end
-- ==== Proof.TilePack.lean ====
/-
  The threshold kernel's first packing: the positions of the chunk maxima above the bisected bound, scattered in order
  behind one another into the list of chunks to fetch.
-/
module
public import proofs.«01_k».proof.Proof.TileChunk
@[expose] public section

noncomputable section

namespace Cert.Tile

open Cert.Kernel Cert.Kernel.Gen Cert.RowMath Cert.Lanes Cert.Payloads
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

variable (d : Dev nD) (L : grid0.Coords)

/-! ## A packing scatter -/

/-- The lanes' running positions, from the count before them. -/
theorem position_eq (p : ℕ → Prop) [DecidablePred p] (q : ℕ → Prop) [DecidablePred q] (n l : ℕ) (hl : l ≤ 16) (hq : ∀ l < 16, (q l ↔ p (n + l))) :
    Nat.count p n + Nat.count q l = Nat.count p (n + l) := by
  rw [Nat.count_add]
  congr 1
  exact count_congr_below _ _ _ fun i hi => hq i (by omega)

/-- A scatter of sixteen lanes, those satisfying `p` at their running positions, packs them. -/
theorem scatter_packs {N : ℕ} (hN : N < 2 ^ 31) (p : ℕ → Prop) [DecidablePred p] (f : ℕ → BitVec 32)
    (old new : (⟨1, ![N]⟩ : Shape).Idx → BitVec 32) (v : S16.Idx → BitVec 32) (idxs : IVec S16 32) (mask : IVec S16 1) (n : ℕ)
    (hold : Packed p f (at1 old) n) (hroom : Nat.count p (n + 16) ≤ N)
    (hi : ∀ i : S16.Idx, idxs i = BitVec.ofNat 32 (Nat.count p (n + (i 0).val)))
    (hm : ∀ i : S16.Idx, mask i = if p (n + (i 0).val) then 1 else 0)
    (hv : ∀ i : S16.Idx, p (n + (i 0).val) → v i = f (n + (i 0).val))
    (hmiss : ∀ j, (∀ x, mask x = 1 → (j 0).val ≠ (idxs x).toNat) → new j = old j)
    (hhit : ∀ j x, mask x = 1 → (j 0).val = (idxs x).toNat → (∀ x', mask x' = 1 → (idxs x').toNat = (idxs x).toNat → v x' = v x) → new j = v x) :
    Packed p f (at1 new) (n + 16) ∧ ∀ k, (k < Nat.count p n ∨ Nat.count p (n + 16) ≤ k) → at1 new k = at1 old k := by
  have hlane : ∀ i : S16.Idx, (i 0).val < 16 := fun i => (i 0).isLt
  have hon : ∀ i : S16.Idx, mask i = 1 → p (n + (i 0).val) := fun i h => by
    rw [hm i] at h
    by_contra hp
    rw [if_neg hp] at h
    exact absurd h (by decide)
  have hpos : ∀ i : S16.Idx, (idxs i).toNat = Nat.count p (n + (i 0).val) := fun i => by
    have h1 : Nat.count p (n + (i 0).val) ≤ Nat.count p (n + 16) := Nat.count_monotone p (by have := hlane i; omega)
    rw [hi i, toNat_ofNat_small _ (by omega)]
  refine packed_store p f old new n hold hroom (fun j hj => hmiss j fun x hx e => ?_) (fun j l hl hp e => ?_)
  · exact hj (x 0).val (hlane x) (hon x hx) (e.trans (hpos x))
  · have hx : mask (Shape.Idx.ofFin ⟨l, hl⟩ : S16.Idx) = 1 := by rw [hm]; exact if_pos hp
    rw [hhit j (Shape.Idx.ofFin ⟨l, hl⟩ : S16.Idx) hx (e.trans (hpos (Shape.Idx.ofFin ⟨l, hl⟩ : S16.Idx)).symm) ?_]
    · exact hv _ hp
    · intro x' hx' e'
      rw [hpos, hpos] at e'
      have hinj : n + (x' 0).val = n + l := by
        have hp' := hon x' hx'
        rcases lt_trichotomy (n + (x' 0).val) (n + l) with h | h | h
        · have := Nat.count_strict_mono hp' h
          exact absurd e' (Nat.ne_of_lt this)
        · exact h
        · have := Nat.count_strict_mono hp h
          exact absurd e'.symm (Nat.ne_of_lt this)
      rw [hv x' (hon x' hx'), hv _ hp, hinj]
      rfl

/-! ## The first packing -/

/-- The chunks whose maximum is above the bound. -/
def picked (f : S6256.Idx → BitVec 32) (x : BitVec 32) (i : ℕ) : Prop := x.toInt < keys (n := 6256) f i

instance (f : S6256.Idx → BitVec 32) (x : BitVec 32) : DecidablePred (picked f x) := fun _ => Int.decLt _ _

/-- What the packing has written after `n` chunks: their positions in order, and the first position elsewhere. -/
structure Listed (f : S6256.Idx → BitVec 32) (x : BitVec 32) (base n : ℕ) (g : S80.Idx → BitVec 32) : Prop where
  packed : Packed (picked f x) (fun i => BitVec.ofNat 32 (base + i)) (at1 (n := 80) g) n
  rest : ∀ j, Nat.count (picked f x) n ≤ j → j < 80 → at1 (n := 80) g j = BitVec.ofNat 32 base

abbrev packChunks (x : IVec S16 32) (base : BitVec 32) :=
  Scf.Loop.for k0_t3_loop k0_t3_ok 0#32 (k0_t3_body (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1 (iota .scVector S16 32 [0] iota_S16_d0_w32_scVector) x base 0#32 0#32)

theorem t3_trips : k0_t3_loop.trips = 391 := by decide

theorem pts_pack (f : Buf (Elt Bits) (packL d L)) :
    (packL d L ↦{fullShare} f : sProp 𝕄)
      = ((packV.access (.whole S80)).loc (thr d L) ↦[(packV.access (.whole S80)).set]{fullShare} f) := by
  rw [show (packV.access (.whole S80)).set = Finset.univ from Memref.set_access_whole (cc0_scratch1 : Ref sig .scVector)]

theorem read_pack (g : S80.Idx → BitVec 32) : View.read (Elt Bits) (packV.access (.whole S80)) g = g :=
  Memref.read_access_whole (Elt Bits) (cc0_scratch1 : Ref sig .scVector) g

theorem write_pack (g w : S80.Idx → BitVec 32) : View.write (Elt Bits) (packV.access (.whole S80)) g w Finset.univ = w :=
  Memref.write_access_whole_univ (Elt Bits) (cc0_scratch1 : Ref sig .scVector) g w

/-- One trip's scatter, from the sixteen maxima it read. -/
theorem listed_step (f : S6256.Idx → BitVec 32) (g : S80.Idx → BitVec 32) (x : BitVec 32) (base : ℕ) (k : Fin k0_t3_loop.trips)
    (v : S16.Idx → BitVec 32) (hv : ∀ l < 16, at1 (n := 16) v l = at1 (n := 6256) f (16 * k.val + l))
    (hcnt : Nat.count (picked f x) (16 * k.val + 16) < 64) (hg : Listed f x base (16 * k.val) g) (h) :
    Listed f x base (16 * (k.val + 1)) (storeIdx (F := Bits) (s := S80) (e := .i32) g ![k0_pay25 (F := Bits) (splat x) (BitVec.ofNat 32 (Nat.count (picked f x) (16 * k.val))) v]
      (k0_pay26 (iota .scVector S16 32 [0] iota_S16_d0_w32_scVector) (BitVec.ofNat 32 base) 0#32 k) (k0_pay24 (F := Bits) (splat x) v) false h) := by
  have hq : ∀ l < 16, (over x.toInt v l ↔ picked f x (16 * k.val + l)) := fun l hl => by
    unfold over picked keys; rw [hv l hl]
  have hidx : ∀ i : S16.Idx, k0_pay25 (F := Bits) (splat x) (BitVec.ofNat 32 (Nat.count (picked f x) (16 * k.val))) v i
      = BitVec.ofNat 32 (Nat.count (picked f x) (16 * k.val + (i 0).val)) := fun i => by
    rw [pay25_splat, position_eq _ _ _ _ (Nat.le_of_lt (i 0).isLt) hq]
  have hmask : ∀ i : S16.Idx, k0_pay24 (F := Bits) (splat x) v i = if picked f x (16 * k.val + (i 0).val) then 1 else 0 := fun i => by
    rw [pay24_splat]
    exact if_congr (hq _ (i 0).isLt) rfl rfl
  have hval : ∀ i : S16.Idx, k0_pay26 (iota .scVector S16 32 [0] iota_S16_d0_w32_scVector) (BitVec.ofNat 32 base) 0#32 k i
      = BitVec.ofNat 32 (base + (16 * k.val + (i 0).val)) := fun i => pay26_eq base k i
  generalize k0_pay25 (F := Bits) (splat x) (BitVec.ofNat 32 (Nat.count (picked f x) (16 * k.val))) v = idxs at *
  generalize k0_pay26 (iota .scVector S16 32 [0] iota_S16_d0_w32_scVector) (BitVec.ofNat 32 base) 0#32 k = w at *
  generalize k0_pay24 (F := Bits) (splat x) v = mask at *
  have hmiss := storeIdx_miss (F := Bits) (e := .i32) (N := 80) g idxs w mask h
  have hhit := storeIdx_hit (F := Bits) (e := .i32) (N := 80) g idxs w mask h
  generalize storeIdx (F := Bits) (s := S80) (e := .i32) g ![idxs] w mask false h = new at *
  have hs := scatter_packs (N := 80) (by decide) (picked f x) (fun i => BitVec.ofNat 32 (base + i)) g new w idxs mask (16 * k.val) hg.packed
    (by omega) hidx hmask (fun i _ => hval i) hmiss hhit
  rw [Nat.mul_succ]
  refine ⟨hs.1, fun j hj hj' => ?_⟩
  rw [← hg.rest j (le_trans (Nat.count_monotone _ (by omega)) hj) hj']
  exact hs.2 j (Or.inr hj)

/-- The positions a trip stores at lie inside the list, -/
theorem chk1_ok (f : S6256.Idx → BitVec 32) (x : BitVec 32) (n : ℕ) (v : S16.Idx → BitVec 32)
    (hv : ∀ l < 16, at1 (n := 16) v l = at1 (n := 6256) f (n + l)) (hcnt : Nat.count (picked f x) (n + 16) < 64) :
    k0_chk1 (k0_pay25 (F := Bits) (splat x) (BitVec.ofNat 32 (Nat.count (picked f x) n)) v) := by
  have hq : ∀ l < 16, (over x.toInt v l ↔ picked f x (n + l)) := fun l hl => by
    unfold over picked keys; rw [hv l hl]
  intro a i
  obtain rfl : a = 0 := Subsingleton.elim _ _
  show (k0_pay25 (F := Bits) (splat x) (BitVec.ofNat 32 (Nat.count (picked f x) n)) v i).toNat < 80
  have h1 : Nat.count (picked f x) (n + (i 0).val) ≤ Nat.count (picked f x) (n + 16) :=
    Nat.count_monotone _ (by have : (i 0).val < 16 := (i 0).isLt; omega)
  rw [pay25_splat, position_eq _ _ _ _ (Nat.le_of_lt (i 0).isLt) hq, toNat_ofNat_small _ (by omega)]
  omega

/-- and the running count grows by the trip's. -/
theorem count_step (f : S6256.Idx → BitVec 32) (x : BitVec 32) (k : ℕ) (v : S16.Idx → BitVec 32)
    (hv : ∀ l < 16, at1 (n := 16) v l = at1 (n := 6256) f (16 * k + l)) :
    Scalar.addi (BitVec.ofNat 32 (Nat.count (picked f x) (16 * k))) (extractAt ![0] (k0_pay27 (F := Bits) (splat x) v) inpos_S1_p0)
      = BitVec.ofNat 32 (Nat.count (picked f x) (16 * (k + 1))) := by
  have hq : ∀ l < 16, (over x.toInt v l ↔ picked f x (16 * k + l)) := fun l hl => by
    unfold over picked keys; rw [hv l hl]
  rw [pay27_splat]
  show BitVec.ofNat 32 _ + BitVec.ofNat 32 _ = _
  rw [← BitVec.ofNat_add, position_eq _ _ _ _ (le_refl 16) hq, Nat.mul_succ]

theorem packChunks_wp (f : Buf (Elt Bits) (maxL d L)) (g : Buf (Elt Bits) (packL d L)) (x : BitVec 32) (base : ℕ)
    (hfew : above (keys (n := 6256) f) 6256 x.toInt < 64) (hg : Listed f x base 0 g) :
    iprop((maxL d L ↦{fullShare} f) ∗ (packL d L ↦{fullShare} g) : sProp 𝕄)
      ⊢ tileWp d L (packChunks L (splat x) (BitVec.ofNat 32 base))
          fun acc => iprop(∃ g, ⌜acc = BitVec.ofNat 32 (Nat.count (picked f x) 6256) ∧ Listed f x base 6256 g⌝
            ∗ (maxL d L ↦{fullShare} f) ∗ (packL d L ↦{fullShare} g)) := by
  have hfew' : Nat.count (picked f x) 6256 < 64 := hfew
  unfold packChunks tileWp
  iintro ⟨Hf, Hg⟩
  iapply (Scf.wp_for frame (wpE (defs₀ (F := Bits)) 𝒱₀ (thr d L) none) Set.univ _ _ _ _ _ _
    (fun k acc => iprop(∃ g, ⌜acc = BitVec.ofNat 32 (Nat.count (picked f x) (16 * k)) ∧ Listed f x base (16 * k) g⌝
            ∗ (maxL d L ↦{fullShare} f) ∗ (packL d L ↦{fullShare} g))) ?body)
  case body =>
    intro k acc
    iintro ⟨%g, %hacc, Hf, Hg⟩
    obtain ⟨rfl, hg⟩ := hacc
    have hk : k.val < 391 := lt_of_lt_of_eq k.isLt t3_trips
    have hcnt : Nat.count (picked f x) (16 * k.val + 16) < 64 := lt_of_le_of_lt (Nat.count_monotone _ (by omega)) hfew'
    unfold k0_t3_body; simp only [Prog.bind_lift, Prog.pure_eq_ret]
    iapply (wp_load 𝒱₀ (thr d L) none Set.univ (m := maxV) (S := Finset.univ) (Finset.subset_univ _)) $$ Hf
    iintro Hf
    have hv : ∀ l < 16, at1 (n := 16) (View.readAt (Elt Bits) maxV.view (Rect.unit (s := S6256) (k0_off3 k) S16.size (k0_off3_inb k)).toLoadRect f) l
        = at1 (n := 6256) f (16 * k.val + l) := fun l hl =>
      at1_window (N := 6256) (o := 16 * k.val) f (k0_off3 k) (by rw [k0_off3_eq]; rfl) (k0_off3_inb k) l hl
    generalize View.readAt (Elt Bits) maxV.view (Rect.unit (s := S6256) (k0_off3 k) S16.size (k0_off3_inb k)).toLoadRect f = v at hv
    rw [wp_assume_of _ _ _ _ (chk1_ok f x (16 * k.val) v hv hcnt)]
    ihave Hg' := (Entails.of_eq (pts_pack d L g)) $$ Hg
    iapply (SparseCore.wp_vectorStoreIdx 𝒱₀ (thr d L) none Set.univ (base := packV)) $$ Hg'
    iintro Hg'
    sl_step
    iexists _
    isplitr
    rotate_left
    · isplitl [Hf]
      · iexact Hf
      · iapply (Entails.of_eq (pts_pack d L _).symm); iexact Hg'
    · ipureintro
      rw [read_pack, write_pack]
      exact ⟨count_step f x k.val v hv, listed_step f g x base k v hv hcnt hg _⟩
  isplitl [Hf Hg]
  · iexists g
    isplitr
    · ipureintro; exact ⟨rfl, hg⟩
    · isplitl [Hf]
      · iexact Hf
      · iexact Hg
  · iintro %acc ⟨%g, %hacc, H⟩
    iexists g
    isplitr
    · ipureintro; exact hacc
    · iexact H

end Cert.Tile

end
-- ==== Proof.TileCand.lean ====
/-
  The threshold kernel's second bisection, over the packed candidates: as many sixteen-lane blocks as the candidates
  fill, the loop counting the keys above a midpoint (its remainder loop makes no trip), and the bisection round it.
-/
module
public import proofs.«01_k».proof.Proof.TileChunk
public import Idealize.ShloMosaic.Lib.LoopRemainder
@[expose] public section

noncomputable section

namespace Cert.Tile

open Cert.Kernel Cert.Kernel.Gen Cert.RowMath Cert.Lanes Cert.Payloads
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

variable (d : Dev nD) (L : grid0.Coords)

/-! ## The number of blocks -/

theorem shift_four (n : ℕ) (h : n < 2 ^ 31) : Scalar.shrsi (BitVec.ofNat 32 n) 4#32 = BitVec.ofNat 32 (n / 16) := by
  unfold Scalar.shrsi IntOp.shrsi
  rw [if_pos (by decide)]
  apply BitVec.eq_of_toNat_eq
  rw [BitVec.sshiftRight_eq', BitVec.sshiftRight_eq_of_msb_false (by rw [BitVec.msb_eq_decide]; simp; omega)]
  simp [Nat.shiftRight_eq_div_pow]
  omega

theorem blocks_ub (c : ℕ) (h : c ≤ 10080) : (k0_t7_loop (BitVec.ofNat 32 c)).ub = BitVec.ofNat 32 ((c + 15) / 16) := by
  show Scalar.addi 0#32 (Scalar.muli (Scalar.divsi (Scalar.subi (Scalar.shrsi (Scalar.addi (BitVec.ofNat 32 c) 15#32) 4#32) 0#32) 1#32) 1#32) = _
  rw [Scalar.muli_divsi_one, show Scalar.addi (BitVec.ofNat 32 c) 15#32 = BitVec.ofNat 32 (c + 15) from (BitVec.ofNat_add c 15).symm,
    shift_four _ (by omega)]
  show 0#32 + (BitVec.ofNat 32 ((c + 15) / 16) - 0#32) = _
  rw [BitVec.sub_zero, BitVec.zero_add]

theorem blocks_trips (c : ℕ) (h : c ≤ 10080) : (k0_t7_loop (BitVec.ofNat 32 c)).trips = (c + 15) / 16 := by
  show Scf.trips 0#32 (k0_t7_loop (BitVec.ofNat 32 c)).ub 1#32 = _
  rw [blocks_ub c h]
  unfold Scf.trips
  rw [toInt_ofNat_small _ (by omega), show (0#32).toInt = 0 from by decide, show (1#32).toInt = 1 from by decide]
  omega

theorem rest_trips (c : BitVec 32) : (k0_t8_loop c).trips = 0 := Scf.rem_trips _ _

theorem block_off (c : BitVec 32) (k : Fin (k0_t7_loop c).trips) (hk : k.val < 1000) : k0_off6 c k = ![16 * k.val] := by
  show ![(IntOp.muli (Scf.iv 0#32 1#32 k.val) 16#32).toNat] = _
  rw [iv_eq]
  congr 1
  show (BitVec.ofNat 32 k.val * BitVec.ofNat 32 16).toNat = _
  rw [← BitVec.ofNat_mul, toNat_ofNat_small _ (by omega), mul_comm]

/-- What the kernel assumes of the candidates' number holds. -/
theorem chk3_ok (c : ℕ) (h : c ≤ 10080) : k0_chk3 (BitVec.ofNat 32 c) := by
  have ht := blocks_trips c h
  refine ⟨fun a => ?_, ⟨show 0 < (1#32).toInt by decide, ?_⟩, fun k a => ?_, Scf.rem_ok _ _, fun k => (Nat.not_lt_zero _ (lt_of_lt_of_eq k.isLt (rest_trips _))).elim⟩
  · obtain rfl : a = 0 := Subsingleton.elim _ _
    show (BitVec.ofNat 32 c).toNat + 16 ≤ 10112
    rw [toNat_ofNat_small _ (by omega)]; omega
  · show (0#32).toInt + ((k0_t7_loop (BitVec.ofNat 32 c)).trips : ℤ) * (1#32).toInt < 2 ^ 31
    rw [ht, show (0#32).toInt = 0 from by decide, show (1#32).toInt = 1 from by decide]
    have : ((c + 15) / 16 : ℕ) < 1000 := by omega
    push_cast at this ⊢
    omega
  · have hk := lt_of_lt_of_eq k.isLt ht
    rw [block_off _ k (by omega)]
    obtain rfl : a = 0 := Subsingleton.elim _ _
    show 16 * k.val + 16 ≤ 10112
    omega

/-! ## The loops -/

/-- The counting loop over the candidates. -/
abbrev countCands (w : BitVec 32) (hw : k0_chk3 w) (a b : IVec S16 32) :=
  Scf.Loop.for (k0_t7_loop w) (k0_t7_ok w hw) (splat 0#32) (k0_t7_body (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1 w hw a b)

/-- Its remainder loop. -/
abbrev countRest (w : BitVec 32) (hw : k0_chk3 w) (a b acc : IVec S16 32) :=
  Scf.Loop.for (k0_t8_loop w) (k0_t8_ok w hw) acc (k0_t8_body (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1 w hw a b)

theorem countCands_wp (f : Buf (Elt Bits) (candL d L)) (c : ℕ) (h : c ≤ 10080) (hw : k0_chk3 (BitVec.ofNat 32 c)) (lo hi : BitVec 32) :
    (candL d L ↦{fullShare} f : sProp 𝕄)
      ⊢ tileWp d L (countCands L (BitVec.ofNat 32 c) hw (splat lo) (splat hi))
          fun acc => iprop(⌜acc = splat (BitVec.ofNat 32 (above (keys (n := 10112) f) (16 * ((c + 15) / 16)) (mid lo hi).toInt))⌝
            ∗ candL d L ↦{fullShare} f) := by
  unfold countCands tileWp
  iintro H
  iapply (Scf.wp_for frame (wpE (defs₀ (F := Bits)) 𝒱₀ (thr d L) none) Set.univ _ _ _ _ _ _
    (fun k acc => iprop(⌜acc = splat (BitVec.ofNat 32 (above (keys (n := 10112) f) (16 * k) (mid lo hi).toInt))⌝ ∗ candL d L ↦{fullShare} f)) ?body)
  case body =>
    intro k acc
    iintro ⟨%hacc, H⟩
    subst hacc
    have hk : k.val < 1000 := by have := lt_of_lt_of_eq k.isLt (blocks_trips c h); omega
    unfold k0_t7_body; simp only [Prog.bind_lift, Prog.pure_eq_ret]
    iapply (wp_load 𝒱₀ (thr d L) none Set.univ (m := candV) (S := Finset.univ) (Finset.subset_univ _)) $$ H
    iintro H
    sl_step
    isplitr
    · ipureintro
      rw [pay2_splat]
      rw [← BitVec.ofNat_add, above_block (n := 10112) f _ _ k.val]
      intro l hl
      rw [← at1_window (N := 10112) (o := 16 * k.val) f (k0_off6 (BitVec.ofNat 32 c) k) (by rw [block_off _ k hk]; rfl) (k0_off6_inb _ hw k) l hl]
      rfl
    · iexact H
  isplitl [H]
  · isplitr
    · ipureintro; rfl
    · iexact H
  · iintro %acc ⟨%hacc, H⟩
    isplitr
    · ipureintro; rw [hacc, show Scf.trips _ _ _ = _ from blocks_trips c h]
    · iexact H

/-- The second bisection, over the candidates. -/
abbrev bisectCands (w : BitVec 32) (hw : k0_chk3 w) (x : IVec S16 32) :=
  Scf.Loop.for k0_t6_loop k0_t6_ok (x, k0_pay13) (k0_t6_body (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1 k0_pay10 k0_pay11 w hw)

theorem t6_trips : k0_t6_loop.trips = 32 := by decide

theorem bisectCands_wp (f : Buf (Elt Bits) (candL d L)) (c : ℕ) (h : c ≤ 10080) (hw : k0_chk3 (BitVec.ofNat 32 c)) (x : BitVec 32) :
    (candL d L ↦{fullShare} f : sProp 𝕄)
      ⊢ tileWp d L (bisectCands L (BitVec.ofNat 32 c) hw (splat x))
          fun acc => iprop(⌜Carried (above (keys (n := 10112) f) (16 * ((c + 15) / 16))) x.toInt 32 acc⌝ ∗ candL d L ↦{fullShare} f) := by
  unfold bisectCands tileWp
  iintro H
  iapply (Scf.wp_for frame (wpE (defs₀ (F := Bits)) 𝒱₀ (thr d L) none) Set.univ _ _ _ _ _ _
    (fun k acc => iprop(⌜Carried (above (keys (n := 10112) f) (16 * ((c + 15) / 16))) x.toInt k acc⌝ ∗ candL d L ↦{fullShare} f)) ?body)
  case body =>
    intro k acc
    iintro ⟨%hacc, H⟩
    obtain ⟨lo, hi, rfl, hb⟩ := hacc
    unfold k0_t6_body
    simp only [wp_bind]
    iapply (wp_wand_r frame (wpE (defs₀ (F := Bits)) 𝒱₀ (thr d L) none) Set.univ)
    isplitl [H]
    · iapply (countCands_wp d L f c h hw lo hi); iexact H
    · iintro %acc ⟨%hc, H⟩
      subst hc
      rw [show Scf.Loop.for (k0_t8_loop (BitVec.ofNat 32 c)) (k0_t8_ok (BitVec.ofNat 32 c) hw) _ _ = _ from Scf.for_eq_ret _ _ _ _ _ _ (rest_trips _)]
      simp only [Prog.pure_eq_ret]
      sl_step
      sl_step
      isplitr
      · ipureintro
        have hs : above (keys (n := 10112) f) (16 * ((c + 15) / 16)) (mid lo hi).toInt < 2 ^ 31 := by
          have := above_small (keys (n := 10112) f) (16 * ((c + 15) / 16)) (mid lo hi).toInt; omega
        rw [show k0_pay11 = splat 64#32 from rfl, pay5_splat _ _ _ hs, pay6_splat _ _ _ hs]
        exact Carried.step hb (lt_of_lt_of_eq k.isLt t6_trips) _ rfl
      · iexact H
  isplitl [H]
  · isplitr
    · ipureintro
      refine ⟨x, 2147483647#32, rfl, ?_⟩
      have hb := toInt_bounds x
      exact Bisecting.start _ _ _ (by rw [show (2147483647#32).toInt = 2147483647 from by decide]; omega)
        (by rw [show (2147483647#32).toInt = 2147483647 from by decide]; omega) (lt_of_eq_of_lt (above_top _ _) (by decide))
    · iexact H
  · iintro %acc ⟨%hacc, H⟩
    isplitr
    · ipureintro; exact hacc
    · iexact H

end Cert.Tile

end
-- ==== Proof.TileFill.lean ====
/-
  The threshold kernel's stores of sixteen words: the list of chunks filled with the row's first chunk, its first 64
  words copied out, and the padding put behind the candidates.
-/
module
public import proofs.«01_k».proof.Proof.TilePack
public import proofs.«01_k».proof.Proof.TileCand
@[expose] public section

noncomputable section

namespace Cert.Tile

open Cert.Kernel Cert.Kernel.Gen Cert.RowMath Cert.Lanes Cert.Payloads
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

variable (d : Dev nD) (L : grid0.Coords)

/-- Sixteen words stored at `o`. -/
def put {N : ℕ} (f : (⟨1, ![N]⟩ : Shape).Idx → BitVec 32) (o : ℕ) (w : S16.Idx → BitVec 32) : (⟨1, ![N]⟩ : Shape).Idx → BitVec 32 :=
  fun j => if o ≤ (j 0).val ∧ (j 0).val < o + 16 then at1 (n := 16) w ((j 0).val - o) else f j

theorem at1_put {N : ℕ} (f : (⟨1, ![N]⟩ : Shape).Idx → BitVec 32) (o : ℕ) (w : S16.Idx → BitVec 32) (ho : o + 16 ≤ N) (k : ℕ) :
    at1 (put f o w) k = if o ≤ k ∧ k < o + 16 then at1 (n := 16) w (k - o) else at1 f k := by
  by_cases hk : k < N
  · rw [at1_of_lt _ k hk, at1_of_lt _ k hk]; rfl
  · unfold at1
    rw [dif_neg hk, dif_neg hk, if_neg (by omega)]

theorem at1_put_in {N : ℕ} (f : (⟨1, ![N]⟩ : Shape).Idx → BitVec 32) (o : ℕ) (w : S16.Idx → BitVec 32) (ho : o + 16 ≤ N) (k : ℕ)
    (h : o ≤ k) (h' : k < o + 16) : at1 (put f o w) k = at1 (n := 16) w (k - o) := by
  rw [at1_put f o w ho, if_pos ⟨h, h'⟩]

theorem at1_put_out {N : ℕ} (f : (⟨1, ![N]⟩ : Shape).Idx → BitVec 32) (o : ℕ) (w : S16.Idx → BitVec 32) (ho : o + 16 ≤ N) (k : ℕ)
    (h : k < o ∨ o + 16 ≤ k) : at1 (put f o w) k = at1 f k := by
  rw [at1_put f o w ho, if_neg (by omega)]

/-- A buffer agreeing with `put` on and off the window is it. -/
theorem eq_put {N : ℕ} (f new : (⟨1, ![N]⟩ : Shape).Idx → BitVec 32) (off : Fin 1 → ℕ) (o : ℕ) (ho : off 0 = o) (w : S16.Idx → BitVec 32)
    (h : ∀ a, off a + S16.size a ≤ (⟨1, ![N]⟩ : Shape).size a)
    (hin : ∀ x : S16.Idx, new ((Rect.unit (s := ⟨1, ![N]⟩) off S16.size h).emb x) = w x)
    (hout : ∀ j, j ∉ (Rect.unit (s := ⟨1, ![N]⟩) off S16.size h).set → new j = f j) : new = put f o w := by
  have hco : ∀ x : S16.Idx, ∀ a, ((Rect.unit (s := ⟨1, ![N]⟩) off S16.size h).emb x a).val = o + (x 0).val := fun x a => by
    obtain rfl : a = 0 := Subsingleton.elim _ _
    show off 0 + 1 * (x 0).val = _
    omega
  funext j
  unfold put
  by_cases hj : o ≤ (j 0).val ∧ (j 0).val < o + 16
  · rw [if_pos hj, at1_of_lt _ _ (by omega), ← hin]
    congr 1
    funext a
    apply Fin.ext
    rw [hco]
    obtain rfl : a = 0 := Subsingleton.elim _ _
    show (j 0).val = o + ((j 0).val - o)
    omega
  · rw [if_neg hj]
    refine hout j fun hm => hj ?_
    have h0 := Rect.mem_set_unit.mp hm 0
    rw [ho] at h0
    exact h0

theorem store_pack (f : S80.Idx → BitVec 32) (w : S16.Idx → BitVec 32) (off : Fin 1 → ℕ) (o : ℕ) (ho : off 0 = o)
    (h : ∀ a, off a + S16.size a ≤ S80.size a) :
    View.write (Elt Bits) (packV.access (Rect.unit (s := S80) off S16.size h)) f w Finset.univ = put f o w :=
  eq_put (N := 80) f _ off o ho w h (fun x => View.write_emb_of_mem (Val := Elt Bits) (v := packV.access (Rect.unit (s := S80) off S16.size h)) f w (Finset.mem_univ x))
    (fun j hj => View.write_of_not_mem (Val := Elt Bits) (v := packV.access (Rect.unit (s := S80) off S16.size h)) f w Finset.univ
      (by rw [View.setOn_univ, View.set_slice_whole]; exact hj))

theorem store_list (f : S64.Idx → BitVec 32) (w : S16.Idx → BitVec 32) (off : Fin 1 → ℕ) (o : ℕ) (ho : off 0 = o)
    (h : ∀ a, off a + S16.size a ≤ S64.size a) :
    View.write (Elt Bits) (listV.access (Rect.unit (s := S64) off S16.size h)) f w Finset.univ = put f o w :=
  eq_put (N := 64) f _ off o ho w h (fun x => View.write_emb_of_mem (Val := Elt Bits) (v := listV.access (Rect.unit (s := S64) off S16.size h)) f w (Finset.mem_univ x))
    (fun j hj => View.write_of_not_mem (Val := Elt Bits) (v := listV.access (Rect.unit (s := S64) off S16.size h)) f w Finset.univ
      (by rw [View.setOn_univ, View.set_slice_whole]; exact hj))

theorem store_cand (f : S10112.Idx → BitVec 32) (w : S16.Idx → BitVec 32) (off : Fin 1 → ℕ) (o : ℕ) (ho : off 0 = o)
    (h : ∀ a, off a + S16.size a ≤ S10112.size a) :
    View.write (Elt Bits) (candV.access (Rect.unit (s := S10112) off S16.size h)) f w Finset.univ = put f o w :=
  eq_put (N := 10112) f _ off o ho w h (fun x => View.write_emb_of_mem (Val := Elt Bits) (v := candV.access (Rect.unit (s := S10112) off S16.size h)) f w (Finset.mem_univ x))
    (fun j hj => View.write_of_not_mem (Val := Elt Bits) (v := candV.access (Rect.unit (s := S10112) off S16.size h)) f w Finset.univ
      (by rw [View.setOn_univ, View.set_slice_whole]; exact hj))

/-- The row a tile works on. -/
abbrev rowOf : ℕ := 2 * (L 1).val + (L 0).val

theorem row_lt : rowOf L < 32 := by
  have h0 : (L 0).val < 2 := (L 0).isLt
  have h1 : (L 1).val < 16 := (L 1).isLt
  unfold rowOf; omega

/-- The row's first chunk, as the kernel computes it. -/
theorem base_eq : Scalar.muli (Scalar.addi (Scalar.muli (BitVec.ofNat 32 (L 1).val) 2#32) (BitVec.ofNat 32 (L 0).val)) 6250#32
    = BitVec.ofNat 32 (6250 * rowOf L) := by
  revert L; decide +kernel

theorem fill_eq : k0_pay19 L = splat (BitVec.ofNat 32 (6250 * rowOf L)) ∧ k0_pay20 L = splat (BitVec.ofNat 32 (6250 * rowOf L))
    ∧ k0_pay21 L = splat (BitVec.ofNat 32 (6250 * rowOf L)) ∧ k0_pay22 L = splat (BitVec.ofNat 32 (6250 * rowOf L))
    ∧ k0_pay23 L = splat (BitVec.ofNat 32 (6250 * rowOf L)) := by
  rw [← base_eq]; exact ⟨rfl, rfl, rfl, rfl, rfl⟩

/-- The list filled with the row's first chunk, before anything is packed into it. -/
theorem listed_fill (f : S6256.Idx → BitVec 32) (x : BitVec 32) (g : S80.Idx → BitVec 32) (b : ℕ) :
    Listed f x b 0 (put (put (put (put (put g 0 (splat (BitVec.ofNat 32 b))) 16 (splat (BitVec.ofNat 32 b))) 32 (splat (BitVec.ofNat 32 b)))
      48 (splat (BitVec.ofNat 32 b))) 64 (splat (BitVec.ofNat 32 b))) := by
  have hs : ∀ k < 16, at1 (n := 16) (splat (BitVec.ofNat 32 b)) k = BitVec.ofNat 32 b := fun k hk => by rw [at1_of_lt _ k hk]
  refine ⟨fun i hi => absurd hi (Nat.not_lt_zero i), fun j _ hj => ?_⟩
  by_cases h4 : 64 ≤ j
  · rw [at1_put_in _ _ _ (by decide) _ h4 (by omega), hs _ (by omega)]
  rw [at1_put_out _ _ _ (by decide) _ (by omega)]
  by_cases h3 : 48 ≤ j
  · rw [at1_put_in _ _ _ (by decide) _ h3 (by omega), hs _ (by omega)]
  rw [at1_put_out _ _ _ (by decide) _ (by omega)]
  by_cases h2 : 32 ≤ j
  · rw [at1_put_in _ _ _ (by decide) _ h2 (by omega), hs _ (by omega)]
  rw [at1_put_out _ _ _ (by decide) _ (by omega)]
  by_cases h1 : 16 ≤ j
  · rw [at1_put_in _ _ _ (by decide) _ h1 (by omega), hs _ (by omega)]
  rw [at1_put_out _ _ _ (by decide) _ (by omega)]
  rw [at1_put_in _ _ _ (by decide) _ (by omega) (by omega)]
  exact hs _ (by omega)

/-- Sixteen words of the list of chunks, as a load reads them. -/
abbrev slicePack (g : S80.Idx → BitVec 32) (off : Fin 1 → ℕ) (h : ∀ a, off a + S16.size a ≤ S80.size a) : S16.Idx → BitVec 32 :=
  View.readAt (Elt Bits) packV.view (Rect.unit (s := S80) off S16.size h).toLoadRect g

theorem at1_slicePack (g : S80.Idx → BitVec 32) (off : Fin 1 → ℕ) (h : ∀ a, off a + S16.size a ≤ S80.size a) (l : ℕ) (hl : l < 16) :
    at1 (n := 16) (slicePack g off h) l = at1 (n := 80) g (off 0 + l) :=
  at1_window (N := 80) g off rfl h l hl

/-- The list's first 64 words, copied. -/
theorem copied (g : S80.Idx → BitVec 32) (f : S64.Idx → BitVec 32) (k : ℕ) (hk : k < 64) :
    at1 (n := 64) (put (put (put (put f 0 (slicePack g ![0] inb_S80_S16_0)) 16 (slicePack g ![16] inb_S80_S16_16)) 32 (slicePack g ![32] inb_S80_S16_32))
      48 (slicePack g ![48] inb_S80_S16_48)) k = at1 (n := 80) g k := by
  have hc : ∀ o, o ≤ k → o + (k - o) = k := fun o h => by omega
  by_cases h3 : 48 ≤ k
  · rw [at1_put_in _ _ _ (by decide) _ h3 (by omega), at1_slicePack _ _ _ _ (by omega)]
    exact congrArg (at1 (n := 80) g) (hc 48 h3)
  rw [at1_put_out _ _ _ (by decide) _ (by omega)]
  by_cases h2 : 32 ≤ k
  · rw [at1_put_in _ _ _ (by decide) _ h2 (by omega), at1_slicePack _ _ _ _ (by omega)]
    exact congrArg (at1 (n := 80) g) (hc 32 h2)
  rw [at1_put_out _ _ _ (by decide) _ (by omega)]
  by_cases h1 : 16 ≤ k
  · rw [at1_put_in _ _ _ (by decide) _ h1 (by omega), at1_slicePack _ _ _ _ (by omega)]
    exact congrArg (at1 (n := 80) g) (hc 16 h1)
  rw [at1_put_out _ _ _ (by decide) _ (by omega)]
  rw [at1_put_in _ _ _ (by decide) _ (by omega) (by omega), at1_slicePack _ _ _ _ (by omega)]
  exact congrArg (at1 (n := 80) g) (hc 0 (by omega))

end Cert.Tile

end
-- ==== Proof.TileKeep.lean ====
/-
  The threshold kernel's second packing: of the fetched chunks, the entries above the bisected bound, scattered in
  order behind one another into the list of candidates.
-/
module
public import proofs.«01_k».proof.Proof.TilePack
public import Idealize.ShloMosaic.Lib.ValueLayout
@[expose] public section

noncomputable section

namespace Cert.Tile

open Cert.Kernel Cert.Kernel.Gen Cert.RowMath Cert.Lanes Cert.Payloads
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

local notation "𝕄" => MT nD τ sig (HIx 1) (Elt Bits) ℕ UU ℕ

variable (d : Dev nD) (L : grid0.Coords)

/-! ## The fetched words in the order they are scanned -/

/-- Word `q` of the fetched chunks: entry `q mod 160` of chunk `q / 160`, a chunk lying in two rows of 128. -/
def rowWord (W : S64x2x128.Idx → BitVec 32) (q : ℕ) : BitVec 32 :=
  W (ix3 (⟨q / 160 % 64, Nat.mod_lt _ (by decide)⟩ : Fin 64) (⟨q % 160 / 128 % 2, Nat.mod_lt _ (by decide)⟩ : Fin 2)
    (⟨q % 160 % 128, Nat.mod_lt _ (by decide)⟩ : Fin 128))

/-- Their keys. -/
def rowKeys (W : S64x2x128.Idx → BitVec 32) (q : ℕ) : ℤ := key (rowWord W q)

theorem t4_trips : k0_t4_loop.trips = 64 := by decide
theorem t5_trips : k0_t5_loop.trips = 10 := by decide

theorem off4_eq : ∀ (t : Fin k0_t4_loop.trips) (k : Fin k0_t5_loop.trips), k0_off4 t k = ![t.val, k.val / 8, k.val % 8 * 16] := by
  decide +kernel

theorem pay8_apply (ld : S1x1x16.Idx → BitVec 32) (i : Fin 16) :
    k0_pay8 (F := Bits) ld (ix1 i) = ld (ix3 (0 : Fin 1) (0 : Fin 1) i) :=
  shapeCast_apply (s := S1x1x16) (t := S16) ld shapeCasts_S1x1x16_S16 (ix1 i) (ix3 (0 : Fin 1) (0 : Fin 1) i) (by
    rw [Shape.rowMajor_val_three, Shape.rowMajor_val_one]
    show (0 * 1 + 0) * 16 + i.val = i.val
    omega)

/-- Lane `l` of the sixteen words read in trip `k` over chunk `t`. -/
theorem at1_rowWord (W : S64x2x128.Idx → BitVec 32) (t : Fin k0_t4_loop.trips) (k : Fin k0_t5_loop.trips) (l : ℕ) (hl : l < 16) :
    at1 (n := 16) (k0_pay8 (F := Bits) (fun x : S1x1x16.Idx =>
      W ((Rect.unit (s := S64x2x128) (k0_off4 t k) S1x1x16.size (k0_off4_inb t k)).toLoadRect.idx x))) l
      = rowWord W (160 * t.val + 16 * k.val + l) := by
  have ht : t.val < 64 := lt_of_lt_of_eq t.isLt t4_trips
  have hk : k.val < 10 := lt_of_lt_of_eq k.isLt t5_trips
  have e : (Shape.Idx.ofFin ⟨l, hl⟩ : S16.Idx) = ix1 (⟨l, hl⟩ : Fin 16) := by
    funext a
    obtain rfl : a = 0 := Subsingleton.elim _ _
    rfl
  rw [at1_of_lt _ l hl, e]
  refine (pay8_apply _ ⟨l, hl⟩).trans ?_
  unfold rowWord
  refine congrArg W (funext fun a => Fin.ext ?_)
  have e0 : k0_off4 t k 0 = t.val := congrFun (off4_eq t k) 0
  have e1 : k0_off4 t k 1 = k.val / 8 := congrFun (off4_eq t k) 1
  have e2 : k0_off4 t k 2 = k.val % 8 * 16 := congrFun (off4_eq t k) 2
  match a with
  | ⟨0, _⟩ =>
    show k0_off4 t k 0 + 1 * 0 = (160 * t.val + 16 * k.val + l) / 160 % 64
    omega
  | ⟨1, _⟩ =>
    show k0_off4 t k 1 + 1 * 0 = (160 * t.val + 16 * k.val + l) % 160 / 128 % 2
    omega
  | ⟨2, _⟩ =>
    show k0_off4 t k 2 + 1 * l = (160 * t.val + 16 * k.val + l) % 160 % 128
    omega

/-! ## A trip -/

/-- The entries kept: those of a listed chunk that exceed the bound. -/
abbrev keep (W : S64x2x128.Idx → BitVec 32) (nc : ℕ) (x : BitVec 32) : ℕ → Prop := kept (rowKeys W) nc x.toInt

section trip

variable (W : S64x2x128.Idx → BitVec 32) (nc : ℕ) (hnc : nc ≤ 63) (x : BitVec 32) (t : Fin k0_t4_loop.trips) (k : Fin k0_t5_loop.trips)
  (ld : S1x1x16.Idx → BitVec 32) (hv : ∀ l < 16, at1 (n := 16) (k0_pay8 (F := Bits) ld) l = rowWord W (160 * t.val + 16 * k.val + l))

include hv in
theorem keeps_iff (l : ℕ) (hl : l < 16) :
    keeps (t.val < nc) x.toInt (k0_pay8 (F := Bits) ld) l ↔ keep W nc x (160 * t.val + 16 * k.val + l) := by
  have hk : k.val < 10 := lt_of_lt_of_eq k.isLt t5_trips
  unfold keeps over keep kept rowKeys
  rw [hv l hl, show (160 * t.val + 16 * k.val + l) / 160 = t.val by omega]

include hnc in
theorem pay9_keep (i : S16.Idx) :
    k0_pay9 (F := Bits) (splat x) (k0_pay28 (BitVec.ofNat 32 nc) t) ld i = if keeps (t.val < nc) x.toInt (k0_pay8 (F := Bits) ld) (i 0).val then 1 else 0 := by
  rw [pay28_eq nc (by omega) t (lt_of_lt_of_eq t.isLt t4_trips)]
  exact pay9_eq _ _ _ _

include hv hnc in
theorem pay29_keep (i : S16.Idx) :
    k0_pay29 (BitVec.ofNat 32 (Nat.count (keep W nc x) (160 * t.val + 16 * k.val)))
        (k0_pay9 (F := Bits) (splat x) (k0_pay28 (BitVec.ofNat 32 nc) t) ld) 1#32 0#32 i
      = BitVec.ofNat 32 (Nat.count (keep W nc x) (160 * t.val + 16 * k.val + (i 0).val)) := by
  rw [pay29_eq _ _ (pay9_keep nc hnc x t ld), position_eq _ _ _ _ (Nat.le_of_lt (i 0).isLt) (keeps_iff W nc x t k ld hv)]

include hv hnc in
theorem chk2_ok : k0_chk2 (k0_pay29 (BitVec.ofNat 32 (Nat.count (keep W nc x) (160 * t.val + 16 * k.val)))
    (k0_pay9 (F := Bits) (splat x) (k0_pay28 (BitVec.ofNat 32 nc) t) ld) 1#32 0#32) := by
  intro a i
  obtain rfl : a = 0 := Subsingleton.elim _ _
  show (k0_pay29 (BitVec.ofNat 32 (Nat.count (keep W nc x) (160 * t.val + 16 * k.val)))
    (k0_pay9 (F := Bits) (splat x) (k0_pay28 (BitVec.ofNat 32 nc) t) ld) 1#32 0#32 i).toNat < 10112
  have h1 : Nat.count (keep W nc x) (160 * t.val + 16 * k.val + (i 0).val) ≤ 10080 := count_kept_le (rowKeys W) nc hnc x.toInt _
  rw [pay29_keep W nc hnc x t k ld hv, toNat_ofNat_small _ (by omega)]
  omega

include hv hnc in
theorem keep_count_step :
    Scalar.addi (BitVec.ofNat 32 (Nat.count (keep W nc x) (160 * t.val + 16 * k.val)))
        (extractAt ![0] (k0_pay30 (k0_pay9 (F := Bits) (splat x) (k0_pay28 (BitVec.ofNat 32 nc) t) ld)) inpos_S1_p0)
      = BitVec.ofNat 32 (Nat.count (keep W nc x) (160 * t.val + 16 * (k.val + 1))) := by
  rw [pay30_eq _ _ (pay9_keep nc hnc x t ld)]
  show BitVec.ofNat 32 _ + BitVec.ofNat 32 _ = _
  rw [← BitVec.ofNat_add, position_eq _ _ _ _ (le_refl 16) (keeps_iff W nc x t k ld hv), Nat.mul_succ, Nat.add_assoc]

include hv hnc in
theorem keep_step (g : S10112.Idx → BitVec 32) (hg : Packed (keep W nc x) (rowWord W) (at1 (n := 10112) g) (160 * t.val + 16 * k.val)) (h) :
    Packed (keep W nc x) (rowWord W) (at1 (n := 10112) (storeIdx (F := Bits) (s := S10112) (e := .f32) g
        ![k0_pay29 (BitVec.ofNat 32 (Nat.count (keep W nc x) (160 * t.val + 16 * k.val)))
          (k0_pay9 (F := Bits) (splat x) (k0_pay28 (BitVec.ofNat 32 nc) t) ld) 1#32 0#32]
        (k0_pay8 (F := Bits) ld) (k0_pay9 (F := Bits) (splat x) (k0_pay28 (BitVec.ofNat 32 nc) t) ld) false h))
      (160 * t.val + 16 * (k.val + 1)) := by
  have hidx := pay29_keep W nc hnc x t k ld hv
  have hmask : ∀ i : S16.Idx, k0_pay9 (F := Bits) (splat x) (k0_pay28 (BitVec.ofNat 32 nc) t) ld i
      = if keep W nc x (160 * t.val + 16 * k.val + (i 0).val) then 1 else 0 := fun i =>
    (pay9_keep nc hnc x t ld i).trans (if_congr (keeps_iff W nc x t k ld hv _ (i 0).isLt) rfl rfl)
  have hval : ∀ i : S16.Idx, k0_pay8 (F := Bits) ld i = rowWord W (160 * t.val + 16 * k.val + (i 0).val) := fun i => by
    rw [← hv (i 0).val (i 0).isLt]
    exact (at1_apply (k0_pay8 (F := Bits) ld) i).symm
  generalize k0_pay29 (BitVec.ofNat 32 (Nat.count (keep W nc x) (160 * t.val + 16 * k.val)))
          (k0_pay9 (F := Bits) (splat x) (k0_pay28 (BitVec.ofNat 32 nc) t) ld) 1#32 0#32 = idxs at *
  generalize k0_pay9 (F := Bits) (splat x) (k0_pay28 (BitVec.ofNat 32 nc) t) ld = mask at *
  generalize k0_pay8 (F := Bits) ld = w at *
  have hmiss := storeIdx_miss (F := Bits) (e := .f32) (N := 10112) g idxs w mask h
  have hhit := storeIdx_hit (F := Bits) (e := .f32) (N := 10112) g idxs w mask h
  generalize storeIdx (F := Bits) (s := S10112) (e := .f32) g ![idxs] w mask false h = new at *
  have hroom : Nat.count (keep W nc x) (160 * t.val + 16 * k.val + 16) ≤ 10112 :=
    le_trans (count_kept_le (rowKeys W) nc hnc x.toInt _) (by decide)
  have hs := scatter_packs (N := 10112) (by decide) (keep W nc x) (rowWord W) g new w idxs mask (160 * t.val + 16 * k.val) hg
    hroom hidx hmask (fun i _ => hval i) hmiss hhit
  rw [Nat.mul_succ]
  exact hs.1

end trip

/-! ## The loops -/

abbrev keepRow (x : IVec S16 32) (base nc : BitVec 32) (t : Fin k0_t4_loop.trips) (c : BitVec 32) :=
  Scf.Loop.for k0_t5_loop k0_t5_ok c (k0_t5_body (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1 (iota .scVector S16 32 [0] iota_S16_d0_w32_scVector) x base 0#32 0#32 nc t (Scf.iv 0#32 1#32 t))

abbrev keepRows (x : IVec S16 32) (base nc : BitVec 32) :=
  Scf.Loop.for k0_t4_loop k0_t4_ok 0#32 (k0_t4_body (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1 (iota .scVector S16 32 [0] iota_S16_d0_w32_scVector) x base 0#32 0#32 nc)

theorem pts_cand (f : Buf (Elt Bits) (candL d L)) :
    (candL d L ↦{fullShare} f : sProp 𝕄)
      = ((candV.access (.whole S10112)).loc (thr d L) ↦[(candV.access (.whole S10112)).set]{fullShare} f) := by
  rw [show (candV.access (.whole S10112)).set = Finset.univ from Memref.set_access_whole (cc0_scratch4 : Ref sig .scVector)]

theorem read_cand (g : S10112.Idx → BitVec 32) : View.read (Elt Bits) (candV.access (.whole S10112)) g = g :=
  Memref.read_access_whole (Elt Bits) (cc0_scratch4 : Ref sig .scVector) g

theorem write_cand (g w : S10112.Idx → BitVec 32) : View.write (Elt Bits) (candV.access (.whole S10112)) g w Finset.univ = w :=
  Memref.write_access_whole_univ (Elt Bits) (cc0_scratch4 : Ref sig .scVector) g w

theorem keepRow_wp (W : Buf (Elt Bits) (rowsL d L)) (nc : ℕ) (hnc : nc ≤ 63) (x : BitVec 32) (base : BitVec 32) (t : Fin k0_t4_loop.trips)
    (g : Buf (Elt Bits) (candL d L)) (hg : Packed (keep W nc x) (rowWord W) (at1 (n := 10112) g) (160 * t.val)) :
    iprop((rowsL d L ↦{fullShare} W) ∗ (candL d L ↦{fullShare} g) : sProp 𝕄)
      ⊢ tileWp d L (keepRow L (splat x) base (BitVec.ofNat 32 nc) t (BitVec.ofNat 32 (Nat.count (keep W nc x) (160 * t.val))))
          fun acc => iprop(∃ g, ⌜acc = BitVec.ofNat 32 (Nat.count (keep W nc x) (160 * (t.val + 1)))
              ∧ Packed (keep W nc x) (rowWord W) (at1 (n := 10112) g) (160 * (t.val + 1))⌝
            ∗ (rowsL d L ↦{fullShare} W) ∗ (candL d L ↦{fullShare} g)) := by
  unfold keepRow tileWp
  iintro ⟨Hf, Hg⟩
  iapply (Scf.wp_for frame (wpE (defs₀ (F := Bits)) 𝒱₀ (thr d L) none) Set.univ _ _ _ _ _ _
    (fun k acc => iprop(∃ g, ⌜acc = BitVec.ofNat 32 (Nat.count (keep W nc x) (160 * t.val + 16 * k))
        ∧ Packed (keep W nc x) (rowWord W) (at1 (n := 10112) g) (160 * t.val + 16 * k)⌝
            ∗ (rowsL d L ↦{fullShare} W) ∗ (candL d L ↦{fullShare} g))) ?body)
  case body =>
    intro k acc
    iintro ⟨%g, %hacc, Hf, Hg⟩
    obtain ⟨rfl, hg⟩ := hacc
    unfold k0_t5_body; rw [k0_part1_eq_skeleton]; unfold k0_part1_skel; simp only [Prog.bind_lift, Prog.pure_eq_ret]
    iapply (wp_load 𝒱₀ (thr d L) none Set.univ (m := rowsV) (S := Finset.univ) (Finset.subset_univ _)) $$ Hf
    iintro Hf
    have hv : ∀ l < 16, at1 (n := 16) (k0_pay8 (F := Bits) (View.readAt (Elt Bits) rowsV.view (Rect.unit (s := S64x2x128) (k0_off4 t k) S1x1x16.size (k0_off4_inb t k)).toLoadRect W)) l
        = rowWord W (160 * t.val + 16 * k.val + l) := fun l hl => at1_rowWord W t k l hl
    generalize View.readAt (Elt Bits) rowsV.view (Rect.unit (s := S64x2x128) (k0_off4 t k) S1x1x16.size (k0_off4_inb t k)).toLoadRect W = ld at hv
    dsimp only [Prog.bind]
    rw [wp_assume_of _ _ _ _ (chk2_ok W nc hnc x t k ld hv)]
    ihave Hg' := (Entails.of_eq (pts_cand d L g)) $$ Hg
    iapply (SparseCore.wp_vectorStoreIdx 𝒱₀ (thr d L) none Set.univ (base := candV)) $$ Hg'
    iintro Hg'
    sl_step
    iexists _
    isplitr
    rotate_left
    · isplitl [Hf]
      · iexact Hf
      · iapply (Entails.of_eq (pts_cand d L _).symm); iexact Hg'
    · ipureintro
      rw [read_cand, write_cand]
      exact ⟨keep_count_step W nc hnc x t k ld hv, keep_step W nc hnc x t k ld hv g hg _⟩
  isplitl [Hf Hg]
  · iexists g
    isplitr
    · ipureintro; exact ⟨rfl, hg⟩
    · isplitl [Hf]
      · iexact Hf
      · iexact Hg
  · iintro %acc ⟨%g, %hacc, H⟩
    iexists g
    isplitr
    · ipureintro; exact hacc
    · iexact H

theorem keepRows_wp (W : Buf (Elt Bits) (rowsL d L)) (nc : ℕ) (hnc : nc ≤ 63) (x : BitVec 32) (base : BitVec 32)
    (g : Buf (Elt Bits) (candL d L)) :
    iprop((rowsL d L ↦{fullShare} W) ∗ (candL d L ↦{fullShare} g) : sProp 𝕄)
      ⊢ tileWp d L (keepRows L (splat x) base (BitVec.ofNat 32 nc))
          fun acc => iprop(∃ g, ⌜acc = BitVec.ofNat 32 (Nat.count (keep W nc x) 10240)
              ∧ Packed (keep W nc x) (rowWord W) (at1 (n := 10112) g) 10240⌝
            ∗ (rowsL d L ↦{fullShare} W) ∗ (candL d L ↦{fullShare} g)) := by
  unfold keepRows tileWp
  iintro ⟨Hf, Hg⟩
  iapply (Scf.wp_for frame (wpE (defs₀ (F := Bits)) 𝒱₀ (thr d L) none) Set.univ _ _ _ _ _ _
    (fun k acc => iprop(∃ g, ⌜acc = BitVec.ofNat 32 (Nat.count (keep W nc x) (160 * k))
        ∧ Packed (keep W nc x) (rowWord W) (at1 (n := 10112) g) (160 * k)⌝
            ∗ (rowsL d L ↦{fullShare} W) ∗ (candL d L ↦{fullShare} g))) ?body)
  case body =>
    intro t acc
    iintro ⟨%g, %hacc, Hf, Hg⟩
    obtain ⟨rfl, hg⟩ := hacc
    unfold k0_t4_body
    simp only [wp_bind]
    iapply (wp_wand_r frame (wpE (defs₀ (F := Bits)) 𝒱₀ (thr d L) none) Set.univ)
    isplitl [Hf Hg]
    · iapply (keepRow_wp d L W nc hnc x base t g hg)
      isplitl [Hf]
      · iexact Hf
      · iexact Hg
    · iintro %acc ⟨%g, %hacc, H⟩
      simp only [Prog.pure_eq_ret]
      sl_step
      iexists g
      isplitr
      · ipureintro; exact hacc
      · iexact H
  isplitl [Hf Hg]
  · iexists g
    isplitr
    · ipureintro; exact ⟨rfl, fun i hi => absurd hi (Nat.not_lt_zero i)⟩
    · isplitl [Hf]
      · iexact Hf
      · iexact Hg
  · iintro %acc ⟨%g, %hacc, H⟩
    iexists g
    isplitr
    · ipureintro; exact hacc
    · iexact H

end Cert.Tile

end
-- ==== Proof.TileRow.lean ====
/-
  What the threshold kernel's stages amount to over one row: the indices it fetches by lie inside the table, and the
  word it leaves is the 64th largest of the row.
-/
module
public import proofs.«01_k».proof.Proof.TileFill
public import proofs.«01_k».proof.Proof.TileKeep
@[expose] public section

noncomputable section

namespace Cert.Tile

open Cert.Kernel Cert.Kernel.Gen Cert.RowMath Cert.Lanes Cert.Payloads
open Idealize.ShloMosaic
open Idealize.ShloMosaic.ValueIdx

/-- The row's data: `K` the keys of its million entries, the chunk maxima the kernel reads, and the table of chunks it
    fetches from. -/
structure RowData (r : ℕ) (K : ℕ → ℤ) (f : S6256.Idx → BitVec 32) (G : S200000x2x128.Idx → BitVec 32) : Prop where
  chunks : ChunkMax K (keys (n := 6256) f)
  table : ∀ i (hi : 6250 * r + i < 200000), i < 6250 → ∀ t (ht : t < 160),
    key (G (ix3 (⟨6250 * r + i, hi⟩ : Fin 200000) (⟨t / 128, by omega⟩ : Fin 2) (⟨t % 128, Nat.mod_lt _ (by decide)⟩ : Fin 128))) = K (160 * i + t)

section

variable {r : ℕ} (hr : r < 32) {K : ℕ → ℤ} {f : S6256.Idx → BitVec 32} {G : S200000x2x128.Idx → BitVec 32} (h : RowData r K f G)
  {x : BitVec 32} {g : S80.Idx → BitVec 32} (hg : Listed f x (6250 * r) 6256 g)

include h in
/-- Only chunks of the row are picked. -/
theorem picked_lt (i : ℕ) (hi : i < 6256) (hp : picked f x i) : i < 6250 := by
  by_contra hc
  have h1 := h.chunks.pad i (by omega) hi
  have h2 := (toInt_bounds x).1
  unfold picked at hp
  omega

include hr h hg in
/-- A listed position is a chunk's. -/
theorem listed_chunk (j : ℕ) (hj : j < Nat.count (picked f x) 6256) :
    ∃ i < 6250, picked f x i ∧ (at1 (n := 80) g j).toNat = 6250 * r + i := by
  obtain ⟨i, hi, hp, e⟩ := hg.packed.exists j hj
  have hi' := picked_lt h i hi hp
  exact ⟨i, hi', hp, by rw [e, toNat_ofNat_small _ (by omega)]⟩

include hr h hg in
/-- Every position fetched by lies inside the table. -/
theorem listed_lt (j : ℕ) (hj : j < 80) : (at1 (n := 80) g j).toNat < 200000 := by
  by_cases hc : j < Nat.count (picked f x) 6256
  · obtain ⟨i, hi, _, e⟩ := listed_chunk hr h hg j hc
    omega
  · rw [hg.rest j (by omega) hj, toNat_ofNat_small _ (by omega)]
    omega

/-- The fetched chunks. -/
def Fetched (G : S200000x2x128.Idx → BitVec 32) (g : S80.Idx → BitVec 32) (W : S64x2x128.Idx → BitVec 32) : Prop :=
  ∀ (c : Fin 64) (a : Fin 2) (b : Fin 128) (hc : (at1 (n := 80) g c.val).toNat < 200000),
    W (ix3 c a b) = G (ix3 (⟨(at1 (n := 80) g c.val).toNat, hc⟩ : Fin 200000) a b)

include hr h hg in
/-- The fetched words of a listed chunk are the row's. -/
theorem rowKeys_listed {W : S64x2x128.Idx → BitVec 32} (hW : Fetched G g W) (c : ℕ) (hc64 : c < 64)
    (hc : c < Nat.count (picked f x) 6256) (t : ℕ) (ht : t < 160) :
    rowKeys W (160 * c + t) = K (160 * ((at1 (n := 80) g c).toNat - 6250 * r) + t) := by
  obtain ⟨i, hi, _, e⟩ := listed_chunk hr h hg c hc
  have hlt : 6250 * r + i < 200000 := by omega
  unfold rowKeys rowWord
  have e0 : (⟨(160 * c + t) / 160 % 64, Nat.mod_lt _ (by decide)⟩ : Fin 64) = ⟨c, hc64⟩ := Fin.ext (by show (160 * c + t) / 160 % 64 = c; omega)
  have e1 : (⟨(160 * c + t) % 160 / 128 % 2, Nat.mod_lt _ (by decide)⟩ : Fin 2) = ⟨t / 128, by omega⟩ :=
    Fin.ext (by show (160 * c + t) % 160 / 128 % 2 = t / 128; omega)
  have e2 : (⟨(160 * c + t) % 160 % 128, Nat.mod_lt _ (by decide)⟩ : Fin 128) = ⟨t % 128, Nat.mod_lt _ (by decide)⟩ :=
    Fin.ext (by show (160 * c + t) % 160 % 128 = t % 128; omega)
  rw [e0, e1, e2, hW ⟨c, hc64⟩ _ _ (by rw [e]; exact hlt), show (at1 (n := 80) g c).toNat - 6250 * r = i by omega, ← h.table i hlt hi t ht]
  congr 4

include hr h hg in
/-- The word left by the stages is the row's 64th largest. -/
theorem row_result {W : S64x2x128.Idx → BitVec 32} (hW : Fetched G g W) {lo1 : BitVec 32}
    (h1 : Bisecting (above (keys (n := 6256) f) 6256) (-2 ^ 31) 32 lo1.toInt x.toInt)
    {q : S10112.Idx → BitVec 32} (hq : Packed (keep W (Nat.count (picked f x) 6256) x) (rowWord W) (at1 (n := 10112) q) 10240)
    (c : ℕ) (hc : c = Nat.count (keep W (Nat.count (picked f x) 6256) x) 10240) {lo2 hi2 : BitVec 32}
    (h2 : Bisecting (above (keys (n := 10112) (put q c (fun _ => sortableKey x))) (16 * ((c + 15) / 16))) x.toInt 32 lo2.toInt hi2.toInt) :
    Is64th K 1000000 (if 64 ≤ c then hi2 else x).toInt := by
  have hx := (toInt_bounds x).1
  have hfew : above (keys (n := 6256) f) 6256 x.toInt < 64 := h1.few
  have hcle : c ≤ 10080 := by rw [hc]; exact count_kept_le _ _ (by have : Nat.count (picked f x) 6256 < 64 := hfew; omega) _ _
  have hpack : Packed (fun i => x.toInt < keys (n := 6256) f i) id (fun j => (at1 (n := 80) g j).toNat - 6250 * r) 6256 := fun i hi hp => by
    have e : at1 (n := 80) g (Nat.count (picked f x) i) = BitVec.ofNat 32 (6250 * r + i) := hg.packed i hi hp
    show (at1 (n := 80) g (Nat.count (picked f x) i)).toNat - 6250 * r = i
    rw [e, toNat_ofNat_small _ (by omega)]
    omega
  have hV : ∀ c < 64, c < above (keys (n := 6256) f) 6256 x.toInt → ∀ t < 160,
      rowKeys W (160 * c + t) = K (160 * ((at1 (n := 80) g c).toNat - 6250 * r) + t) := fun c hc64 hc t ht =>
    rowKeys_listed hr h hg hW c hc64 hc t ht
  have hB : Packed (keep W (Nat.count (picked f x) 6256) x) (rowKeys W) (keys (n := 10112) q) 10240 := fun i hi hp =>
    congrArg key (hq i hi hp)
  have hsplit : (if 64 ≤ c then hi2 else x).toInt = if 64 ≤ c then hi2.toInt else x.toInt := by split_ifs <;> rfl
  rw [hsplit]
  refine is64th_of_stages h.chunks x.toInt lo1.toInt hx h1 _ c ?_ (fun v hv => ?_) lo2.toInt hi2.toInt h2
  · rw [hc]
    exact h.chunks.count_candidates x.toInt hx hfew _ hpack _ _ hV hB
  · rw [above_pad _ c x.toInt v hv (fun i hi => ?_), ← h.chunks.above_candidates x.toInt hx hfew _ hpack _ _ hV hB v hv]
    · rw [hc]
      refine count_congr_below _ _ _ fun i hi => ?_
      show v < key (at1 (put q _ _) i) ↔ v < key (at1 q i)
      rw [at1_put_out _ _ _ (by omega) _ (Or.inl hi)]
    · show key (at1 (put q _ _) (c + i)) = _
      rw [at1_put_in _ _ _ (by omega) _ (by omega) (by omega), at1_of_lt _ _ (by omega)]
      show (sortableKey (sortableKey x)).toInt = _
      rw [sortableKey_sortableKey]

end

end Cert.Tile

end
-- ==== Proof.TileHead.lean ====
/-
  The threshold kernel's first part on one tile: the row of chunk maxima fetched, the first bisection, and the list of
  chunks filled.
-/
module
public import proofs.«01_k».proof.Proof.TileRow
@[expose] public section

noncomputable section

namespace Cert.Tile

open Cert.Kernel Cert.Kernel.Gen Cert.RowMath Cert.Lanes Cert.Payloads
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

variable (d : Dev nD) (L : grid0.Coords)

/-! ## The windows of a tile -/

abbrev mRowK : Memref sig .scVector .hbm S6256 .f32 :=
  (mV.slice (Rect.unit (s := S32x6256) (k0_off1 L) S1x6256.size (k0_off1_inb L)) (fun _ => rfl)).squeeze S6256 squeezes_S1x6256_S6256
abbrev oRowK : Memref sig .scVector .hbm S16 .f32 :=
  (oV.slice (Rect.unit (s := S32x16) (k0_off8 L) S1x16.size (k0_off8_inb L)) (fun _ => rfl)).squeeze S16 squeezes_S1x16_S16
abbrev gAllK : Memref sig .scVector .hbm S200000x2x128 .f32 :=
  gV.slice (Rect.unit (s := S200000x2x128) ![0, 0, 0] S200000x2x128.size inb_S200000x2x128_S200000x2x128_0_0_0) (fun _ => rfl)

/-- Where the operands live. -/
abbrev gLoc (d : Dev nD) : Loc nD τ sig := (SparseCore.T d).loc main_v11
abbrev mLoc (d : Dev nD) : Loc nD τ sig := (SparseCore.T d).loc main_v17
abbrev oLoc (d : Dev nD) : Loc nD τ sig := (SparseCore.T d).loc main_v18

/-- The row of chunk maxima a tile reads. -/
abbrev mRow (mB : Buf (Elt Bits) (mLoc d)) : S6256.Idx → BitVec 32 := (mRowK L).view.read (Elt Bits) mB

abbrev mRowPts (mB : Buf (Elt Bits) (mLoc d)) : sProp 𝕄 := mLoc d ↦[(mRowK L).view.set]{fullShare} mB
abbrev oRowPts (oB : Buf (Elt Bits) (oLoc d)) : sProp 𝕄 := oLoc d ↦[(oRowK L).view.set]{fullShare} oB

/-! ## The program as the launch theorem sees it -/

abbrev ΛP : Labels := Pipeline.Sig Λ₀ (Fin 0) fun p => (pcfgs (F := Bits) p).Adm
abbrev K : SparseCore.Cfg τ sig ΛP 1 := sc (F := Bits)

abbrev part2 := k0_part2 (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1

abbrev semA : GSem nD τ sig := (thr d L, .dma cc0_scoped0.sem)

/-- The waits a segment has recorded, beyond those it started from. -/
abbrev owesOnly (O : CellTallies nD τ sig (HIx 1)) (W : Waits sig (HIx 1)) : sProp 𝕄 :=
  iprop(∃ W', ⌜∀ p ∈ W', p ∈ W ∨ p.2 = none⌝ ∗ owes (thr d L) O W')

/-! ## Loads and stores of sixteen words, as the contents change -/

section Words
variable {α : Type} {Q : α → sProp 𝕄}

theorem load_pack_wp (f : S80.Idx → BitVec 32) (off : Fin 1 → ℕ) (h : ∀ a, off a + S16.size a ≤ S80.size a)
    (hl : (packV).view.LoadsAt (Rect.unit (s := S80) off S16.size h).toLoadRect)
    (k : (S16.Idx → BitVec 32) → Prog (TpuEff nD τ sig (Elt Bits) Λ₀ (thr d L).2) α) :
    (packL d L ↦{fullShare} f : sProp 𝕄)
      ⊢ iprop(((packL d L ↦{fullShare} f) -∗ wp frame (wpE (defs₀ (F := Bits)) 𝒱₀ (thr d L) none) Set.univ (k (slicePack f off h)) Q)
        -∗ wp frame (wpE (defs₀ (F := Bits)) 𝒱₀ (thr d L) none) Set.univ
          (.op (.load packV (Rect.unit (s := S80) off S16.size h).toLoadRect hl) k) Q) :=
  wp_load 𝒱₀ (thr d L) none Set.univ (m := packV) (S := Finset.univ) (Finset.subset_univ _)

theorem put_pack_wp (f : S80.Idx → BitVec 32) (w : S16.Idx → BitVec 32) (off : Fin 1 → ℕ) (h : ∀ a, off a + S16.size a ≤ S80.size a)
    (hx : (packV.access (Rect.unit (s := S80) off S16.size h)).Stores Finset.univ) (hm) (k : PUnit → Prog (TpuEff nD τ sig (Elt Bits) Λ₀ (thr d L).2) α) :
    (packL d L ↦{fullShare} f : sProp 𝕄)
      ⊢ iprop(((packL d L ↦{fullShare} put f (off 0) w) -∗ wp frame (wpE (defs₀ (F := Bits)) 𝒱₀ (thr d L) none) Set.univ (k ⟨⟩) Q)
        -∗ wp frame (wpE (defs₀ (F := Bits)) 𝒱₀ (thr d L) none) Set.univ
          (.op (.store packV (Rect.unit (s := S80) off S16.size h) w Finset.univ hx hm) k) Q) := by
  rw [← store_pack f w off (off 0) rfl h]
  exact wp_store 𝒱₀ (thr d L) none Set.univ (m := packV) (r := Rect.unit (s := S80) off S16.size h) (Mk := Finset.univ) (S := Finset.univ)
    (Finset.subset_univ _)

theorem load_list_wp (f : S64.Idx → BitVec 32) (off : Fin 1 → ℕ) (h : ∀ a, off a + S16.size a ≤ S64.size a)
    (hl : (listV).view.LoadsAt (Rect.unit (s := S64) off S16.size h).toLoadRect)
    (k : (S16.Idx → BitVec 32) → Prog (TpuEff nD τ sig (Elt Bits) Λ₀ (thr d L).2) α) :
    (listL d L ↦{fullShare} f : sProp 𝕄)
      ⊢ iprop(((listL d L ↦{fullShare} f) -∗ wp frame (wpE (defs₀ (F := Bits)) 𝒱₀ (thr d L) none) Set.univ
            (k (View.readAt (Elt Bits) listV.view (Rect.unit (s := S64) off S16.size h).toLoadRect f)) Q)
        -∗ wp frame (wpE (defs₀ (F := Bits)) 𝒱₀ (thr d L) none) Set.univ
          (.op (.load listV (Rect.unit (s := S64) off S16.size h).toLoadRect hl) k) Q) :=
  wp_load 𝒱₀ (thr d L) none Set.univ (m := listV) (S := Finset.univ) (Finset.subset_univ _)

theorem put_list_wp (f : S64.Idx → BitVec 32) (w : S16.Idx → BitVec 32) (off : Fin 1 → ℕ) (h : ∀ a, off a + S16.size a ≤ S64.size a)
    (hx : (listV.access (Rect.unit (s := S64) off S16.size h)).Stores Finset.univ) (hm) (k : PUnit → Prog (TpuEff nD τ sig (Elt Bits) Λ₀ (thr d L).2) α) :
    (listL d L ↦{fullShare} f : sProp 𝕄)
      ⊢ iprop(((listL d L ↦{fullShare} put f (off 0) w) -∗ wp frame (wpE (defs₀ (F := Bits)) 𝒱₀ (thr d L) none) Set.univ (k ⟨⟩) Q)
        -∗ wp frame (wpE (defs₀ (F := Bits)) 𝒱₀ (thr d L) none) Set.univ
          (.op (.store listV (Rect.unit (s := S64) off S16.size h) w Finset.univ hx hm) k) Q) := by
  rw [← store_list f w off (off 0) rfl h]
  exact wp_store 𝒱₀ (thr d L) none Set.univ (m := listV) (r := Rect.unit (s := S64) off S16.size h) (Mk := Finset.univ) (S := Finset.univ)
    (Finset.subset_univ _)

theorem load_cand_wp (f : S10112.Idx → BitVec 32) (off : Fin 1 → ℕ) (h : ∀ a, off a + S16.size a ≤ S10112.size a)
    (hl : (candV).view.LoadsAt (Rect.unit (s := S10112) off S16.size h).toLoadRect)
    (k : (S16.Idx → BitVec 32) → Prog (TpuEff nD τ sig (Elt Bits) Λ₀ (thr d L).2) α) :
    (candL d L ↦{fullShare} f : sProp 𝕄)
      ⊢ iprop(((candL d L ↦{fullShare} f) -∗ wp frame (wpE (defs₀ (F := Bits)) 𝒱₀ (thr d L) none) Set.univ
            (k (View.readAt (Elt Bits) candV.view (Rect.unit (s := S10112) off S16.size h).toLoadRect f)) Q)
        -∗ wp frame (wpE (defs₀ (F := Bits)) 𝒱₀ (thr d L) none) Set.univ
          (.op (.load candV (Rect.unit (s := S10112) off S16.size h).toLoadRect hl) k) Q) :=
  wp_load 𝒱₀ (thr d L) none Set.univ (m := candV) (S := Finset.univ) (Finset.subset_univ _)

theorem put_cand_wp (f : S10112.Idx → BitVec 32) (w : S16.Idx → BitVec 32) (off : Fin 1 → ℕ) (h : ∀ a, off a + S16.size a ≤ S10112.size a)
    (hx : (candV.access (Rect.unit (s := S10112) off S16.size h)).Stores Finset.univ) (hm) (k : PUnit → Prog (TpuEff nD τ sig (Elt Bits) Λ₀ (thr d L).2) α) :
    (candL d L ↦{fullShare} f : sProp 𝕄)
      ⊢ iprop(((candL d L ↦{fullShare} put f (off 0) w) -∗ wp frame (wpE (defs₀ (F := Bits)) 𝒱₀ (thr d L) none) Set.univ (k ⟨⟩) Q)
        -∗ wp frame (wpE (defs₀ (F := Bits)) 𝒱₀ (thr d L) none) Set.univ
          (.op (.store candV (Rect.unit (s := S10112) off S16.size h) w Finset.univ hx hm) k) Q) := by
  rw [← store_cand f w off (off 0) rfl h]
  exact wp_store 𝒱₀ (thr d L) none Set.univ (m := candV) (r := Rect.unit (s := S10112) off S16.size h) (Mk := Finset.univ) (S := Finset.univ)
    (Finset.subset_univ _)

end Words

theorem part2_wp (mB : Buf (Elt Bits) (mLoc d)) (O : CellTallies nD τ sig (HIx 1)) (W : Waits sig (HIx 1)) (hO : ∀ g, O g none = 0) :
    iprop(levAts K.L K.lev ∗ mRowPts d L mB ∗ (∃ f, maxL d L ↦{fullShare} f) ∗ (∃ f, packL d L ↦{fullShare} f) ∗ semVal (semA d L) 0 ∗ owes (thr d L) O W : sProp 𝕄)
      ⊢ tileWp d L (part2 L) fun r => iprop(∃ lo hi : BitVec 32, ∃ g,
          ⌜r = ⟨iota .scVector S16 32 [0] iota_S16_d0_w32_scVector, k0_pay10, k0_pay11, k0_pay13, splat hi, BitVec.ofNat 32 (6250 * rowOf L), 0#32, 0#32⟩
            ∧ Bisecting (above (keys (n := 6256) (mRow d L mB)) 6256) (-2 ^ 31) 32 lo.toInt hi.toInt ∧ Listed (mRow d L mB) hi (6250 * rowOf L) 0 g⌝
          ∗ mRowPts d L mB ∗ (maxL d L ↦{fullShare} mRow d L mB) ∗ (packL d L ↦{fullShare} g) ∗ semVal (semA d L) 0 ∗ owesOnly d L O W) := by
  unfold part2 tileWp
  rw [k0_part2_eq_skeleton]
  unfold k0_part2_skel
  iintro ⟨#Hlv, Hm, ⟨%f0, Hx⟩, ⟨%g0, Hp⟩, Hs, HO⟩
  ihave Hmw := (show levAts K.L K.lev ⊢ Transfers.MayWaits (thr d L) (default : HIx 1) O from
    K.mayWaits_none (thr := thr d L) hO) $$ Hlv
  ihave Hm' := (show mRowPts d L mB ⊢ ((mRowK L).view.loc (thr d L) ↦[(mRowK L).view.set]{fullShare} mB : sProp 𝕄) from Entails.rfl) $$ Hm
  ihave Hx' := (show (maxL d L ↦{fullShare} f0) ⊢ ((maxV).view.loc (thr d L) ↦{fullShare} f0 : sProp 𝕄) from Entails.rfl) $$ Hx
  sl_exec
  have hld : View.write (Elt Bits) (maxV).view f0 (part2_wp.sl.dma0 d L mB) Finset.univ = mRow d L mB := View.write_whole_univ _ _ _
  ihave Hx := (show ((maxV).view.loc (thr d L) ↦{fullShare} View.write (Elt Bits) (maxV).view f0 (part2_wp.sl.dma0 d L mB) Finset.univ : sProp 𝕄)
    ⊢ (maxL d L ↦{fullShare} mRow d L mB) from Entails.of_eq (by rw [hld])) $$ Hx'
  rw [wp_bind]
  iapply (wp_wand_r frame (wpE (defs₀ (F := Bits)) 𝒱₀ (thr d L) none) Set.univ)
  isplitl [Hx]
  · iapply (bisectMaxima_wp d L (mRow d L mB))
    iexact Hx
  iintro %acc ⟨%hacc, Hx⟩
  obtain ⟨lo, hi, rfl, hb⟩ := hacc
  simp only [Prog.bind_lift, Prog.pure_eq_ret]
  iapply (load_pack_wp d L _ _ inb_S80_S16_0) $$ Hp
  iintro Hp
  iapply (put_pack_wp d L _ _ _ inb_S80_S16_0) $$ Hp
  iintro Hp
  iapply (load_pack_wp d L _ _ inb_S80_S16_16) $$ Hp
  iintro Hp
  iapply (put_pack_wp d L _ _ _ inb_S80_S16_16) $$ Hp
  iintro Hp
  iapply (load_pack_wp d L _ _ inb_S80_S16_32) $$ Hp
  iintro Hp
  iapply (put_pack_wp d L _ _ _ inb_S80_S16_32) $$ Hp
  iintro Hp
  iapply (load_pack_wp d L _ _ inb_S80_S16_48) $$ Hp
  iintro Hp
  iapply (put_pack_wp d L _ _ _ inb_S80_S16_48) $$ Hp
  iintro Hp
  iapply (load_pack_wp d L _ _ inb_S80_S16_64) $$ Hp
  iintro Hp
  iapply (put_pack_wp d L _ _ _ inb_S80_S16_64) $$ Hp
  iintro Hp
  sl_step
  have hlist := listed_fill (mRow d L mB) hi g0 (6250 * rowOf L)
  obtain ⟨h0, h1, h2, h3, h4⟩ := fill_eq L
  iexists lo, hi, (put (put (put (put (put g0 0 (k0_pay19 L)) 16 (k0_pay20 L)) 32 (k0_pay21 L)) 48 (k0_pay22 L)) 64 (k0_pay23 L))
  isplitr
  · ipureintro
    refine ⟨?_, hb, ?_⟩
    · rw [← base_eq]; rfl
    · rw [h0, h1, h2, h3, h4]; exact hlist
  isplitl [Hm']
  · iexact Hm'
  isplitl [Hx]
  · iexact Hx
  isplitl [Hp]
  · iexact Hp
  isplitl [Hs]
  · iexact Hs
  iexists _
  isplitr; swap
  · iexact HO
  · ipureintro
    intro p hp
    rcases Finset.mem_insert.mp hp with hp | hp
    · exact .inr (hp ▸ rfl)
    · exact .inl hp

end Cert.Tile

end
-- ==== Proof.TileFetch.lean ====
/-
  The threshold kernel's second part on one tile: the chunks at or above the first bisection's result listed, their
  rows fetched by one indexed copy, the entries above it packed.
-/
module
public import proofs.«01_k».proof.Proof.TileHead
public import Idealize.ShloMosaic.Lib.SparseCore.FromWhole
@[expose] public section

noncomputable section

namespace Cert.Tile

open Cert.Kernel Cert.Kernel.Gen Cert.RowMath Cert.Lanes Cert.Payloads
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

variable (d : Dev nD) (L : grid0.Coords)

/-! ## The indexed copy -/

abbrev gH : S200000x2x128.Gathers 0 S64x2x128 := gathers_S200000x2x128_S64x2x128

theorem read_list (l : S64.Idx → BitVec 32) : (listV).view.read (Elt Bits) l = l := View.read_whole _ _

/-- Every listed chunk is a row of the table. -/
theorem list_inb {l : S64.Idx → BitVec 32} (hl : ∀ k < 64, (at1 (n := 64) l k).toNat < 200000) :
    ∀ x, ((listV).view.read (Elt Bits) l x).toNat < S200000x2x128.size gH.axis := by
  intro x
  rw [read_list]
  have h := hl (x 0).val (x 0).isLt
  rw [at1_apply (n := 64) l x] at h
  exact h

/-- The table read through the window that holds all of it. -/
theorem read_table (G : S200000x2x128.Idx → BitVec 32) (j : S200000x2x128.Idx) : (gAllK).view.read (Elt Bits) G j = G j := by
  refine (View.read_apply _ _).trans ((cast_eq _ _).trans (congrArg G ?_))
  funext a
  match a with
  | 0 => exact Fin.ext (show 0 + 1 * (j 0).val = (j 0).val by omega)
  | 1 => exact Fin.ext (show 0 + 1 * (j 1).val = (j 1).val by omega)
  | 2 => exact Fin.ext (show 0 + 1 * (j 2).val = (j 2).val by omega)

/-- What the indexed copy lands: row `c` of it is the table's row that word `c` of the list names. -/
theorem fetched {l : S64.Idx → BitVec 32} {g : S80.Idx → BitVec 32} {G : S200000x2x128.Idx → BitVec 32}
    (hc : ∀ k < 64, at1 (n := 64) l k = at1 (n := 80) g k) (hn)
    (hin : ∀ x, ((listV).view.read (Elt Bits) l x).toNat < S200000x2x128.size gH.axis) :
    Fetched G g (SparseCore.gatherPayload (F := Bits) (e := .f32) gH ((gAllK).view.read (Elt Bits) G)
      (SparseCore.rows (F := Bits) ((listV).view.read (Elt Bits) l) hn hin)) := by
  intro c a b hlt
  unfold SparseCore.gatherPayload
  rw [read_table]
  have hrow : (SparseCore.rows (F := Bits) ((listV).view.read (Elt Bits) l) hn hin c).val = (at1 (n := 80) g c.val).toNat := by
    show ((listV).view.read (Elt Bits) l _).toNat = _
    rw [read_list, ← hc c.val c.isLt, ← at1_apply (n := 64) l]
    congr 2
    have := Shape.rowMajor_val_one (S64.rowMajor.symm (c.cast hn.symm))
    rw [Equiv.apply_symm_apply] at this
    exact this.symm
  refine congrArg G ?_
  funext e
  match e with
  | 0 =>
    refine Fin.ext ?_
    rw [show (0 : Fin S200000x2x128.rank) = gH.axis from rfl, Shape.Gathers.idx_axis]
    exact hrow
  | 1 => rfl
  | 2 => rfl

/-! ## The second part -/

abbrev part3 (x : BitVec 32) := k0_part3 (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1 (iota .scVector S16 32 [0] iota_S16_d0_w32_scVector) (splat x) (BitVec.ofNat 32 (6250 * rowOf L)) 0#32 0#32

abbrev semG : GSem nD τ sig := (thr d L, .dma cc0_scratch7.sem)

/-- What the second part leaves for the last bisection: its result is the row's 64th largest key. -/
def Ready (K : ℕ → ℤ) (x : BitVec 32) (c : ℕ) (q : S10112.Idx → BitVec 32) : Prop :=
  c ≤ 10080 ∧ ∀ lo2 hi2 : BitVec 32, Bisecting (above (keys (n := 10112) q) (16 * ((c + 15) / 16))) x.toInt 32 lo2.toInt hi2.toInt →
    Is64th K 1000000 (if 64 ≤ c then hi2 else x).toInt

theorem off5_zero (c : ℕ) (h : c ≤ 10080) : k0_off5 (BitVec.ofNat 32 c) 0 = c := by
  show (BitVec.ofNat 32 c).toNat = c
  exact toNat_ofNat_small _ (by omega)

theorem rows_credit : ∀ h : S200000x2x128.Gathers 0 S64x2x128,
    ∑ j, ((rowsV).slice (S64x2x128.rowRect h.axis' j) (S64x2x128.stride_rowRect h.axis' j)).view.dmaCredit = (rowsV).view.dmaCredit := by
  decide +kernel

theorem part3_wp (hF : K.Facts) (q : PosShare TreeShare) (G : Buf (Elt Bits) (gLoc d)) (f : S6256.Idx → BitVec 32) (g : S80.Idx → BitVec 32)
    (Kr : ℕ → ℤ) (hr : RowData (rowOf L) Kr f G) (lo1 x : BitVec 32)
    (hb : Bisecting (above (keys (n := 6256) f) 6256) (-2 ^ 31) 32 lo1.toInt x.toInt) (hg : Listed f x (6250 * rowOf L) 0 g)
    (O : CellTallies nD τ sig (HIx 1)) (W : Waits sig (HIx 1)) (hO : ∀ g, O g none = 0) :
    iprop(levAts K.L K.lev ∗ (gLoc d ↦{q} G) ∗ (maxL d L ↦{fullShare} f) ∗ (packL d L ↦{fullShare} g) ∗ (∃ f, listL d L ↦{fullShare} f)
        ∗ (∃ f, rowsL d L ↦{fullShare} f) ∗ (∃ f, candL d L ↦{fullShare} f) ∗ semVal (semG d L) 0 ∗ owes (thr d L) O W : sProp 𝕄)
      ⊢ tileWp d L (part3 L x) fun r => iprop(∃ c : ℕ, ∃ hw : k0_chk3 (BitVec.ofNat 32 c), ∃ v : BitVec 32, ∃ z : S10112.Idx → BitVec 32,
          ⌜r = ⟨BitVec.ofNat 32 c, hw, v, 0#32, 1#32⟩ ∧ Ready Kr x c z⌝
          ∗ (gLoc d ↦{q} G) ∗ (maxL d L ↦{fullShare} f) ∗ (∃ f, packL d L ↦{fullShare} f) ∗ (∃ f, listL d L ↦{fullShare} f)
          ∗ (∃ f, rowsL d L ↦{fullShare} f) ∗ (candL d L ↦{fullShare} z) ∗ semVal (semG d L) 0 ∗ owesOnly d L O W) := by
  unfold part3 tileWp
  rw [k0_part3_eq_skeleton]
  unfold k0_part3_skel
  iintro ⟨#Hlv, HG, Hx, Hp, ⟨%l0, Hl⟩, ⟨%w0, Hr⟩, ⟨%z0, Hz⟩, Hs, HO⟩
  ihave Hmw := (show levAts K.L K.lev ⊢ Transfers.MayWaits (thr d L) (default : HIx 1) O from
    K.mayWaits_none (thr := thr d L) hO) $$ Hlv
  rw [wp_bind]
  iapply (wp_wand_r frame (wpE (defs₀ (F := Bits)) 𝒱₀ (thr d L) none) Set.univ)
  isplitl [Hx Hp]
  · iapply (packChunks_wp d L f g x (6250 * rowOf L) hb.few hg)
    isplitl [Hx]
    · iexact Hx
    · iexact Hp
  iintro %nc ⟨%g', %hnc, Hx, Hp⟩
  obtain ⟨rfl, hg'⟩ := hnc
  simp only [Prog.bind_lift, Prog.pure_eq_ret]
  iapply (load_pack_wp d L _ _ inb_S80_S16_0) $$ Hp
  iintro Hp
  iapply (load_list_wp d L _ _ inb_S64_S16_0) $$ Hl
  iintro Hl
  iapply (put_list_wp d L _ _ _ inb_S64_S16_0) $$ Hl
  iintro Hl
  iapply (load_pack_wp d L _ _ inb_S80_S16_16) $$ Hp
  iintro Hp
  iapply (load_list_wp d L _ _ inb_S64_S16_16) $$ Hl
  iintro Hl
  iapply (put_list_wp d L _ _ _ inb_S64_S16_16) $$ Hl
  iintro Hl
  iapply (load_pack_wp d L _ _ inb_S80_S16_32) $$ Hp
  iintro Hp
  iapply (load_list_wp d L _ _ inb_S64_S16_32) $$ Hl
  iintro Hl
  iapply (put_list_wp d L _ _ _ inb_S64_S16_32) $$ Hl
  iintro Hl
  iapply (load_pack_wp d L _ _ inb_S80_S16_48) $$ Hp
  iintro Hp
  iapply (load_list_wp d L _ _ inb_S64_S16_48) $$ Hl
  iintro Hl
  iapply (put_list_wp d L _ _ _ inb_S64_S16_48) $$ Hl
  iintro Hl
  ihave Hl := (show (listL d L ↦{fullShare} put (put (put (put l0 (![0] 0) (slicePack g' ![0] inb_S80_S16_0)) (![16] 0) (slicePack g' ![16] inb_S80_S16_16))
        (![32] 0) (slicePack g' ![32] inb_S80_S16_32)) (![48] 0) (slicePack g' ![48] inb_S80_S16_48) : sProp 𝕄)
      ⊢ iprop(∃ l : S64.Idx → BitVec 32, ⌜∀ k < 64, at1 (n := 64) l k = at1 (n := 80) g' k⌝ ∗ (listL d L ↦{fullShare} l)) from by
    iintro H
    iexists _
    isplitr; swap
    · iexact H
    · ipureintro
      exact copied g' l0) $$ Hl
  icases Hl with ⟨%l, %hcop, Hl⟩
  have hrow : rowOf L < 32 := row_lt L
  have hlt : ∀ k < 64, (at1 (n := 64) l k).toNat < 200000 := fun k hk => by
    rw [hcop k hk]; exact listed_lt hrow hr hg' k (by omega)
  have hin := list_inb hlt
  iapply (SparseCore.wp_gatherFromWhole countersEmb 𝒱₀ (thr d L) none (src := gAllK) (dst := rowsV) (offs := listV)
      (hg := gathers_S200000x2x128_S64x2x128) (default : HIx 1) (rowsV).view.dmaCredit (rows_credit _) (by decide) hin) $$ [HG Hr Hl Hs]
  · isplitl [HG]; · iexact HG
    isplitl [Hr]; · iexact Hr
    isplitl [Hl]; · iexact Hl
    iexact Hs
  iintro Hfl
  sl_exec
  iapply (Transfers.wp_waitLocalO countersEmb 𝒱₀ (thr d L) none (default : HIx 1) (rfl : (rowsV).view.dmaCredit = _)) $$ [Hfl HO]
  · isplitl [Hfl]; · iexact Hfl
    isplitl [HO]; · iexact HO
    iapply (Transfers.MayWaits.elim (SemLoc.dma cc0_scratch7.sem)) $$ Hmw
  iintro ⟨⟨Hr, HG, Hl⟩, Hs, HO⟩
  have hfet := fetched (G := G) hcop k0_part3_skel._proof_16 hin
  ihave Hr := (show ((rowsV).view.loc (thr d L) ↦{fullShare} View.write (Elt Bits) (rowsV).view w0
      (SparseCore.gatherPayload (F := Bits) (e := .f32) gH ((gAllK).view.read (Elt Bits) G)
        (SparseCore.rows (F := Bits) ((listV).view.read (Elt Bits) l) k0_part3_skel._proof_16 hin)) Finset.univ : sProp 𝕄)
      ⊢ iprop(∃ R : S64x2x128.Idx → BitVec 32, ⌜Fetched G g' R⌝ ∗ (rowsL d L ↦{fullShare} R)) from by
    rw [View.write_whole_univ]
    iintro H
    iexists _
    isplitr; swap
    · iexact H
    · ipureintro
      exact hfet) $$ Hr
  icases Hr with ⟨%R, %hR, Hr⟩
  sl_step
  dsimp only
  rw [wp_bind]
  iapply (wp_wand_r frame (wpE (defs₀ (F := Bits)) 𝒱₀ (thr d L) none) Set.univ)
  have hnc : Nat.count (picked f x) 6256 ≤ 63 := by
    have h : Nat.count (picked f x) 6256 < 64 := hb.few
    omega
  isplitl [Hr Hz]
  · iapply (keepRows_wp d L R (Nat.count (picked f x) 6256) hnc x (BitVec.ofNat 32 (6250 * rowOf L)) z0)
    isplitl [Hr]
    · iexact Hr
    · iexact Hz
  iintro %c ⟨%z, %hc, Hr, Hz⟩
  obtain ⟨rfl, hz⟩ := hc
  generalize hcn : Nat.count (keep R (Nat.count (picked f x) 6256) x) 10240 = c
  have hcle : c ≤ 10080 := hcn ▸ count_kept_le _ _ hnc _ _
  rw [wp_assume_of _ _ _ _ (chk3_ok c hcle)]
  iapply (load_cand_wp d L _ _ _) $$ Hz
  iintro Hz
  iapply (put_cand_wp d L _ _ _ _) $$ Hz
  iintro Hz
  sl_step
  have hready : Ready Kr x c (put z c (fun _ => sortableKey x)) :=
    ⟨hcle, fun lo2 hi2 h2 => row_result hrow hr hg' hR hb hz c hcn.symm h2⟩
  iexists c, chk3_ok c hcle, _, (put z (k0_off5 (BitVec.ofNat 32 c) 0) (k0_pay31 (F := Bits) (splat x)))
  isplitr
  · ipureintro
    refine ⟨rfl, ?_⟩
    rw [off5_zero c hcle, pay31_splat]
    exact hready
  isplitl [HG]; · iexact HG
  isplitl [Hx]; · iexact Hx
  isplitl [Hp]; · iexists _; iexact Hp
  isplitl [Hl]; · iexists _; iexact Hl
  isplitl [Hr]; · iexists _; iexact Hr
  isplitl [Hz]; · iexact Hz
  isplitl [Hs]; · iexact Hs
  iexists _
  isplitr; swap
  · iexact HO
  · ipureintro
    intro p hp
    rcases Finset.mem_insert.mp hp with hp | hp
    · exact .inr (hp ▸ rfl)
    · exact .inl hp

end Cert.Tile

end
-- ==== Proof.TileBody.lean ====
/-
  The threshold kernel on one tile, whole: from the tile's row of chunk maxima, a share of the table of chunks and the
  tile's row of the result, to that row holding the row's 64th largest logit.
-/
module
public import proofs.«01_k».proof.Proof.TileFetch
@[expose] public section

noncomputable section

namespace Cert.Tile

open Cert.Kernel Cert.Kernel.Gen Cert.RowMath Cert.Lanes Cert.Payloads
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 1) (Elt Bits) ℕ UU ℕ

variable (d : Dev nD) (L : grid0.Coords)

abbrev semO : GSem nD τ sig := (thr d L, .dma cc0_scoped1.sem)

/-- The subcore's semaphores: the three copies', and the rest. -/
abbrev semRest : Finset (GSem nD τ sig) := (((ownCells (thr d L)).erase (semA d L)).erase (semG d L)).erase (semO d L)

theorem ownSems0_tile :
    (ownSems0 (thr d L) : sProp 𝕄)
      = iprop(semVal (semA d L) 0 ∗ semVal (semG d L) 0 ∗ semVal (semO d L) 0 ∗ bigSep (semRest d L) fun g => semVal g 0) := by
  unfold SparseCore.Cfg.ownSems0
  have hA : semA d L ∈ ownCells (thr d L) := mem_ownCells.mpr ⟨rfl, by
    show (SemLoc.dma cc0_scoped0.sem : SemLoc sig).isScoped .scVector = true; decide⟩
  have hG : semG d L ∈ (ownCells (thr d L)).erase (semA d L) := Finset.mem_erase.mpr ⟨by simp [semA, semG]; decide, mem_ownCells.mpr ⟨rfl, by
    show (SemLoc.dma cc0_scratch7.sem : SemLoc sig).isScoped .scVector = true; decide⟩⟩
  have hO : semO d L ∈ ((ownCells (thr d L)).erase (semA d L)).erase (semG d L) := Finset.mem_erase.mpr ⟨by simp [semG, semO]; decide,
    Finset.mem_erase.mpr ⟨by simp [semA, semO]; decide, mem_ownCells.mpr ⟨rfl, by
      show (SemLoc.dma cc0_scoped1.sem : SemLoc sig).isScoped .scVector = true; decide⟩⟩⟩
  rw [SparseCore.bigSep_erase' hA, SparseCore.bigSep_erase' hG, SparseCore.bigSep_erase' hO]

abbrev bufOf (r : Ref sig .scVector) : DevRef τ sig := (Proc.scVector (cV L) (jV L)).devRef r
abbrev bufRest : Finset (DevRef τ sig) :=
  ((((((ownRefs (τ := τ) (.scVector (cV L) (jV L))).erase (bufOf L cc0_scratch0)).erase (bufOf L cc0_scratch1)).erase (bufOf L cc0_scratch2)).erase
    (bufOf L cc0_scratch3)).erase (bufOf L cc0_scratch4)).erase (bufOf L cc0_scratch5)

/-- The subcore's own buffers: the six the kernel uses, and the rest. -/
theorem ownBufs_tile :
    (ownBufs (thr d L) : sProp 𝕄)
      = iprop((∃ f, maxL d L ↦{fullShare} f) ∗ (∃ f, packL d L ↦{fullShare} f) ∗ (∃ f, listL d L ↦{fullShare} f)
          ∗ (∃ f, rowsL d L ↦{fullShare} f) ∗ (∃ f, candL d L ↦{fullShare} f) ∗ (∃ f, outL d L ↦{fullShare} f)
          ∗ bigSep (bufRest L) fun b => iprop(∃ f, ((d, b) : Loc nD τ sig) ↦{fullShare} f)) := by
  unfold SparseCore.Cfg.ownBufs
  have hne : ∀ {a b : Ref sig .scVector}, a ≠ b → bufOf L a ≠ bufOf L b := fun h e => h (Proc.devRef_injective _ e)
  have h0 : bufOf L cc0_scratch0 ∈ ownRefs (τ := τ) (.scVector (cV L) (jV L)) := SparseCore.Cfg.mem_ownRefs_of_owner rfl
  have h1 : bufOf L cc0_scratch1 ∈ ownRefs (τ := τ) (.scVector (cV L) (jV L)) := SparseCore.Cfg.mem_ownRefs_of_owner rfl
  have h2 : bufOf L cc0_scratch2 ∈ ownRefs (τ := τ) (.scVector (cV L) (jV L)) := SparseCore.Cfg.mem_ownRefs_of_owner rfl
  have h3 : bufOf L cc0_scratch3 ∈ ownRefs (τ := τ) (.scVector (cV L) (jV L)) := SparseCore.Cfg.mem_ownRefs_of_owner rfl
  have h4 : bufOf L cc0_scratch4 ∈ ownRefs (τ := τ) (.scVector (cV L) (jV L)) := SparseCore.Cfg.mem_ownRefs_of_owner rfl
  have h5 : bufOf L cc0_scratch5 ∈ ownRefs (τ := τ) (.scVector (cV L) (jV L)) := SparseCore.Cfg.mem_ownRefs_of_owner rfl
  refine (SparseCore.bigSep_erase' h0).trans ?_
  rw [SparseCore.bigSep_erase' (Finset.mem_erase.mpr ⟨hne (by decide), h1⟩),
    SparseCore.bigSep_erase' (Finset.mem_erase.mpr ⟨hne (by decide), Finset.mem_erase.mpr ⟨hne (by decide), h2⟩⟩),
    SparseCore.bigSep_erase' (Finset.mem_erase.mpr ⟨hne (by decide), Finset.mem_erase.mpr ⟨hne (by decide), Finset.mem_erase.mpr ⟨hne (by decide), h3⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), h4⟩⟩⟩⟩),
    SparseCore.bigSep_erase' (Finset.mem_erase.mpr ⟨hne (by decide), Finset.mem_erase.mpr ⟨hne (by decide), Finset.mem_erase.mpr ⟨hne (by decide),
      Finset.mem_erase.mpr ⟨hne (by decide), Finset.mem_erase.mpr ⟨hne (by decide), h5⟩⟩⟩⟩⟩)]

/-- The result: every lane of row `r` is row `r`'s word. -/
abbrev wantBuf (want : Fin 32 → BitVec 32) : Buf (Elt Bits) (oLoc d) := fun j : S32x16.Idx => want (j 0)

/-- What the tile's row of the data has to do with the word wanted of it. -/
def Wanted (mB : Buf (Elt Bits) (mLoc d)) (G : Buf (Elt Bits) (gLoc d)) (want : Fin 32 → BitVec 32) : Prop :=
  ∃ K : ℕ → ℤ, RowData (rowOf L) K (mRow d L mB) G ∧ ∀ v : BitVec 32, Is64th K 1000000 (key v) → v = want ⟨rowOf L, row_lt L⟩

/-- The sixteen words of the result's buffer, all one word, as the copy out reads them. -/
theorem out_words (o0 : S16.Idx → BitVec 32) (w : BitVec 32) (h : ∀ a, (![0] : Fin 1 → ℕ) a + S16.size a ≤ S16.size a) (y : S16.Idx) :
    (outV).view.read (Elt Bits) ((outV).view.writes (Elt Bits) o0 [⟨Rect.unit (s := S16) ![0] S16.size h, fun _ => w⟩]) y = w :=
  View.read_writes_cons_hit (Val := Elt Bits) (outV).view o0 (Rect.unit (s := S16) ![0] S16.size h) (fun _ => w) [] y y (by
    funext a
    obtain rfl : a = 0 := Subsingleton.elim _ _
    exact Fin.ext (show 0 + 1 * (y 0).val = (y 0).val by omega))

/-- The elements of the tile's row of the result, and of the chunk maxima. -/
theorem mem_oRow (i : S32x16.Idx) : i ∈ (oRowK L).view.set ↔ (i 0).val = rowOf L := by
  have e : (oRowK L).view.set = (Rect.unit (s := S32x16) (k0_off8 L) S1x16.size (k0_off8_inb L)).set := by
    show (((oV).view.slice (Rect.unit (s := S32x16) (k0_off8 L) S1x16.size (k0_off8_inb L))).reshape S16 squeezes_S1x16_S16.numel_eq).set = _
    rw [View.set_reshape]
    exact View.set_slice_whole _ _
  have h0 : k0_off8 L 0 = rowOf L := congrFun (k0_off8_eq L) 0
  have h1 : k0_off8 L 1 = 0 := congrFun (k0_off8_eq L) 1
  have b1 : (i 1).val < 16 := (i 1).isLt
  rw [e, Rect.mem_set_unit]
  constructor
  · intro h
    have := h 0
    rw [h0] at this
    have hs : S1x16.size 0 = 1 := rfl
    omega
  · intro h a
    match a with
    | 0 => rw [show k0_off8 L 0 = rowOf L from h0]; exact ⟨by omega, by show _ < _ + 1; omega⟩
    | 1 => rw [show k0_off8 L 1 = 0 from h1]; exact ⟨by omega, by show _ < _ + 16; omega⟩

theorem mem_mRow (i : S32x6256.Idx) : i ∈ (mRowK L).view.set ↔ (i 0).val = rowOf L := by
  have e : (mRowK L).view.set = (Rect.unit (s := S32x6256) (k0_off1 L) S1x6256.size (k0_off1_inb L)).set := by
    show (((mV).view.slice (Rect.unit (s := S32x6256) (k0_off1 L) S1x6256.size (k0_off1_inb L))).reshape S6256 squeezes_S1x6256_S6256.numel_eq).set = _
    rw [View.set_reshape]
    exact View.set_slice_whole _ _
  have h0 : k0_off1 L 0 = rowOf L := congrFun (k0_off1_eq L) 0
  have h1 : k0_off1 L 1 = 0 := congrFun (k0_off1_eq L) 1
  have b1 : (i 1).val < 6256 := (i 1).isLt
  rw [e, Rect.mem_set_unit]
  constructor
  · intro h
    have := h 0
    rw [h0] at this
    have hs : S1x6256.size 0 = 1 := rfl
    omega
  · intro h a
    match a with
    | 0 => rw [show k0_off1 L 0 = rowOf L from h0]; exact ⟨by omega, by show _ < _ + 1; omega⟩
    | 1 => rw [show k0_off1 L 1 = 0 from h1]; exact ⟨by omega, by show _ < _ + 6256; omega⟩

/-- The tile's row of the result, once every word of it is the row's. -/
theorem row_written (oB : S32x16.Idx → BitVec 32) (want : Fin 32 → BitVec 32) (pay : S16.Idx → BitVec 32) (hp : ∀ y, pay y = want ⟨rowOf L, row_lt L⟩) :
    ((oRowK L).view.loc (thr d L) ↦[(oRowK L).view.set]{fullShare} (oRowK L).view.writes (Elt Bits) oB [⟨Rect.whole S16, pay⟩] : sProp 𝕄)
      ⊢ oRowPts d L (wantBuf d want) := by
  refine Entails.of_eq (pointsTo_congr fun i hi => ?_)
  obtain ⟨y, -, rfl⟩ := Finset.mem_map.mp hi
  have hr := (mem_oRow L _).mp hi
  have h := View.read_writes_cons_hit (Val := Elt Bits) (oRowK L).view oB (Rect.whole S16) pay [] y y (Rect.emb_whole_apply _ _)
  rw [View.read_apply] at h
  refine ((cast_eq _ _).symm.trans h).trans ((hp y).trans ?_)
  show want _ = want _
  congr 1
  exact Fin.ext hr.symm

theorem tile_body (hF : K.Facts) (q : PosShare TreeShare) (mB : Buf (Elt Bits) (mLoc d)) (G : Buf (Elt Bits) (gLoc d)) (oB : Buf (Elt Bits) (oLoc d))
    (want : Fin 32 → BitVec 32) (hw : Wanted d L mB G want)
    (O : CellTallies nD τ sig (HIx 1)) (W : Waits sig (HIx 1)) (hO : ∀ g, O g none = 0) :
    iprop(levAts K.L K.lev ∗ emp ∗ (mRowPts d L mB ∗ (gLoc d ↦{q} G) ∗ oRowPts d L oB)
        ∗ scopedBufs (thr d L) ∗ scopedSems0 (thr d L) ∗ owes (thr d L) O W)
      ⊢ wp frame (wpE (defs₀ (F := Bits)) 𝒱₀ (thr d L) none) Set.univ
          (cc0__sc_body (F := Bits) L gV (Memref.isWhole_whole _) mV (Memref.isWhole_whole _)
    oV (Memref.isWhole_whole _) maxV (Memref.isWhole_whole _) packV (Memref.isWhole_whole _) listV (Memref.isWhole_whole _)
    rowsV (Memref.isWhole_whole _) candV (Memref.isWhole_whole _) outV (Memref.isWhole_whole _) spareV (Memref.isWhole_whole _)
    cc0_scratch7 cc0_scoped0 cc0_scoped1)
          fun _ => iprop((mRowPts d L mB ∗ (gLoc d ↦{q} G) ∗ oRowPts d L (wantBuf d want))
            ∗ scopedBufs (thr d L) ∗ scopedSems0 (thr d L) ∗ ∃ W', ⌜∀ p ∈ W', p ∈ W ∨ p.2 = none⌝ ∗ owes (thr d L) O W') := by
  simp only [cc0__sc_body_eq_skeleton]
  unfold cc0__sc_body_skel
  rw [K.scopedBufs_V hF d (cV L) (jV L), SparseCore.Cfg.scopedSems0_V (Val := Elt Bits) d (cV L) (jV L), ownSems0_tile, ownBufs_tile]
  obtain ⟨Kr, hr, hwant⟩ := hw
  iintro ⟨#Hlv, -, ⟨Hm, HG, Ho⟩, ⟨Hx, Hp, Hl, Hr, Hz, ⟨%o0, Hout⟩, Hbufs⟩, ⟨HsA, HsG, HsO, Hsems⟩, HO⟩
  rw [wp_bind]
  iapply (wp_wand_r frame (wpE (defs₀ (F := Bits)) 𝒱₀ (thr d L) none) Set.univ)
  isplitl [Hm Hx Hp HsA HO]
  · iapply (part2_wp d L mB O W hO)
    isplitr; · iexact Hlv
    isplitl [Hm]; · iexact Hm
    isplitl [Hx]; · iexact Hx
    isplitl [Hp]; · iexact Hp
    isplitl [HsA]; · iexact HsA
    iexact HO
  iintro %r2 ⟨%lo1, %x, %g, %h2, Hm, Hx, Hp, HsA, ⟨%W1, %hW1, HO⟩⟩
  obtain ⟨rfl, hb, hg⟩ := h2
  dsimp only
  rw [wp_bind]
  iapply (wp_wand_r frame (wpE (defs₀ (F := Bits)) 𝒱₀ (thr d L) none) Set.univ)
  isplitl [HG Hx Hp Hl Hr Hz HsG HO]
  · iapply (part3_wp d L hF q G (mRow d L mB) g Kr hr lo1 x hb hg O W1 hO)
    isplitr; · iexact Hlv
    isplitl [HG]; · iexact HG
    isplitl [Hx]; · iexact Hx
    isplitl [Hp]; · iexact Hp
    isplitl [Hl]; · iexact Hl
    isplitl [Hr]; · iexact Hr
    isplitl [Hz]; · iexact Hz
    isplitl [HsG]; · iexact HsG
    iexact HO
  iintro %r3 ⟨%c, %hc, %v, %z, %h3, HG, Hx, Hp, Hl, Hr, Hz, HsG, ⟨%W2, %hW2, HO⟩⟩
  obtain ⟨rfl, hcle, hready⟩ := h3
  dsimp only
  rw [wp_bind]
  iapply (wp_wand_r frame (wpE (defs₀ (F := Bits)) 𝒱₀ (thr d L) none) Set.univ)
  isplitl [Hz]
  · iapply (bisectCands_wp d L z c hcle hc x)
    iexact Hz
  iintro %acc ⟨%hacc, Hz⟩
  obtain ⟨lo2, hi2, rfl, hb2⟩ := hacc
  have hres := hready lo2 hi2 hb2
  simp only [Prog.bind_lift, Prog.pure_eq_ret]
  rw [pay7_splat x hi2 c (by omega)]
  have hword : sortableKey (if 64 ≤ c then hi2 else x) = want ⟨rowOf L, row_lt L⟩ := hwant _ (by
    unfold key; rw [sortableKey_sortableKey]; exact hres)
  rw [hword]
  ihave Hmw := (show levAts K.L K.lev ⊢ Transfers.MayWaits (thr d L) (default : HIx 1) O from
    K.mayWaits_none (thr := thr d L) hO) $$ Hlv
  ihave Hout' := (show (outL d L ↦{fullShare} o0) ⊢ ((outV).view.loc (thr d L) ↦{fullShare} o0 : sProp 𝕄) from Entails.rfl) $$ Hout
  ihave Ho' := (show oRowPts d L oB ⊢ ((oRowK L).view.loc (thr d L) ↦[(oRowK L).view.set]{fullShare} oB : sProp 𝕄) from Entails.rfl) $$ Ho
  sl_exec
  sl_step
  ihave Ho := (row_written d L oB want (tile_body.sl.dma2 d L want o0) (fun y => out_words o0 _ inb_S16_S16_0 y)) $$ Ho'
  isplitl [Hm HG Ho]
  · isplitl [Hm]; · iexact Hm
    isplitl [HG]; · iexact HG
    iexact Ho
  isplitl [Hx Hp Hl Hr Hz Hout' Hbufs]
  · isplitl [Hx]; · iexists _; iexact Hx
    isplitl [Hp]; · iexact Hp
    isplitl [Hl]; · iexact Hl
    isplitl [Hr]; · iexact Hr
    isplitl [Hz]; · iexists _; iexact Hz
    isplitl [Hout']; · iexists _; iexact Hout'
    iexact Hbufs
  isplitl [HsA HsG HsO Hsems]
  · isplitl [HsA]; · iexact HsA
    isplitl [HsG]; · iexact HsG
    isplitl [HsO]; · iexact HsO
    iexact Hsems
  iexists _
  isplitr; swap
  · iexact HO
  · ipureintro
    intro p hp
    rcases Finset.mem_insert.mp hp with hp | hp
    · exact .inr (hp ▸ rfl)
    · rcases hW2 p hp with hp | hp
      · exact hW1 p hp
      · exact .inr hp

end Cert.Tile

end
-- ==== Proof.Launch.lean ====
/-
  The threshold kernel's launch: what each tile is handed and hands back, @main's host operations before the call, and
  the run of the whole program.
-/
module
public import proofs.«01_k».proof.Proof.TileBody
public import Idealize.ShloMosaic.Lib.Pipeline.Frame
public import Idealize.ShloMosaic.Lib.Transfers
@[expose] public section

noncomputable section

namespace Cert.Launch

open Cert.Kernel Cert.Kernel.Gen Cert.Tile
open Idealize.ShloMosaic
open Idealize.ShloMosaic.StableHlo (held wp_seq seq seqK after launchContents)
open Idealize.ShloMosaic.SparseCore (S V T)
open Idealize.ShloMosaic.SparseCore.Cfg (HIx Pay tileRest ownBufs ownSems0 ownCells ownRefs mem_ownCells mem_ownRefs)
open Idealize.ShloMosaic.Pipeline (ucRefs sub_ucRefs unscopedBufs_held)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Transfers (shareTok pointsTo_toks)

local notation "𝕄" => MT nD τ sig (HIx 1) (Elt Bits) ℕ UU ℕ

/-! ## The host operations before the call -/

/-- @main's host operations, in order: the integer keys of the logits, the chunk maxima of those and their rows filled
    up; the table of chunks; the maxima as floats again. -/
abbrev ops : List (HloOp τ sig (Elt Bits)) :=
  [StableHlo.unary main_arg0 main_v0 (bitcastToInt (F := Bits) : (⟨S32x1000000, .f32⟩ : BufTy).Contents (Elt Bits) → (⟨S32x1000000, .i32⟩ : BufTy).Contents (Elt Bits)),
   StableHlo.nullary main_c (constantI S_ 32 31#32),
   StableHlo.unary main_c main_v1 (broadcastInDim S32x1000000 ![] bcast_S_S32x1000000 : (⟨S_, .i32⟩ : BufTy).Contents (Elt Bits) → (⟨S32x1000000, .i32⟩ : BufTy).Contents (Elt Bits)),
   StableHlo.binary main_v0 main_v1 main_v2 (Host.shrsi : (⟨S32x1000000, .i32⟩ : BufTy).Contents (Elt Bits) → (⟨S32x1000000, .i32⟩ : BufTy).Contents (Elt Bits) → (⟨S32x1000000, .i32⟩ : BufTy).Contents (Elt Bits)),
   StableHlo.nullary main_c_0 (constantI S_ 32 2147483647#32),
   StableHlo.unary main_c_0 main_v3 (broadcastInDim S32x1000000 ![] bcast_S_S32x1000000 : (⟨S_, .i32⟩ : BufTy).Contents (Elt Bits) → (⟨S32x1000000, .i32⟩ : BufTy).Contents (Elt Bits)),
   StableHlo.binary main_v2 main_v3 main_v4 (andi : (⟨S32x1000000, .i32⟩ : BufTy).Contents (Elt Bits) → (⟨S32x1000000, .i32⟩ : BufTy).Contents (Elt Bits) → (⟨S32x1000000, .i32⟩ : BufTy).Contents (Elt Bits)),
   StableHlo.binary main_v0 main_v4 main_v5 (xori : (⟨S32x1000000, .i32⟩ : BufTy).Contents (Elt Bits) → (⟨S32x1000000, .i32⟩ : BufTy).Contents (Elt Bits) → (⟨S32x1000000, .i32⟩ : BufTy).Contents (Elt Bits)),
   StableHlo.reshape main_v5 main_v6 (rfl : (.i32 : EltTy) = .i32) shapeCasts_S32x1000000_S32x6250x160,
   StableHlo.nullary main_c_1 (constantI S_ 32 2147483648#32),
   StableHlo.binary main_v6 main_c_1 main_v7 ((fun x v => Host.reduce IntOp.maxsi x v reducesTo_S32x6250x160_S32x6250_d2 h_S_) : (⟨S32x6250x160, .i32⟩ : BufTy).Contents (Elt Bits) → (⟨S_, .i32⟩ : BufTy).Contents (Elt Bits) → (⟨S32x6250, .i32⟩ : BufTy).Contents (Elt Bits)),
   StableHlo.nullary main_c_2 (constantI S_ 32 2147483648#32),
   StableHlo.TRef.unary (.of main_c_2 : StableHlo.TRef sig ⟨S_, .i32⟩) main_call0.v0 id,
   StableHlo.TRef.binary (.of main_v7 : StableHlo.TRef sig ⟨S32x6250, .i32⟩) main_call0.v0 main_call0.v1 (fun x v => pad S32x6256 ![0, 0] ![0, 6] ![0, 0] x v pads_S32x6250_S32x6256_000_060 h_S_),
   StableHlo.reshape main_arg0 main_v9 (rfl : (.f32 : EltTy) = .f32) shapeCasts_S32x1000000_S200000x160,
   StableHlo.nullary main_c_3 (constantI S_ 32 0#32),
   StableHlo.TRef.unary (.of main_c_3 : StableHlo.TRef sig ⟨S_, .i32⟩) main_call1.v0 (sitofp (F := Bits) .f32),
   StableHlo.TRef.binary (.of main_v9 : StableHlo.TRef sig ⟨S200000x160, .f32⟩) main_call1.v0 main_call1.v1 (fun x v => pad S200000x256 ![0, 0] ![0, 96] ![0, 0] x v pads_S200000x160_S200000x256_000_0960 h_S_),
   StableHlo.reshape main_v10 main_v11 (rfl : (.f32 : EltTy) = .f32) shapeCasts_S200000x256_S200000x2x128,
   StableHlo.nullary main_c_4 (constantI S_ 32 31#32),
   StableHlo.unary main_c_4 main_v12 (broadcastInDim S32x6256 ![] bcast_S_S32x6256 : (⟨S_, .i32⟩ : BufTy).Contents (Elt Bits) → (⟨S32x6256, .i32⟩ : BufTy).Contents (Elt Bits)),
   StableHlo.binary main_v8 main_v12 main_v13 (Host.shrsi : (⟨S32x6256, .i32⟩ : BufTy).Contents (Elt Bits) → (⟨S32x6256, .i32⟩ : BufTy).Contents (Elt Bits) → (⟨S32x6256, .i32⟩ : BufTy).Contents (Elt Bits)),
   StableHlo.nullary main_c_5 (constantI S_ 32 2147483647#32),
   StableHlo.unary main_c_5 main_v14 (broadcastInDim S32x6256 ![] bcast_S_S32x6256 : (⟨S_, .i32⟩ : BufTy).Contents (Elt Bits) → (⟨S32x6256, .i32⟩ : BufTy).Contents (Elt Bits)),
   StableHlo.binary main_v13 main_v14 main_v15 (andi : (⟨S32x6256, .i32⟩ : BufTy).Contents (Elt Bits) → (⟨S32x6256, .i32⟩ : BufTy).Contents (Elt Bits) → (⟨S32x6256, .i32⟩ : BufTy).Contents (Elt Bits)),
   StableHlo.binary main_v8 main_v15 main_v16 (xori : (⟨S32x6256, .i32⟩ : BufTy).Contents (Elt Bits) → (⟨S32x6256, .i32⟩ : BufTy).Contents (Elt Bits) → (⟨S32x6256, .i32⟩ : BufTy).Contents (Elt Bits)),
   StableHlo.unary main_v16 main_v17 (bitcastToFloat (F := Bits) .f32 : (⟨S32x6256, .i32⟩ : BufTy).Contents (Elt Bits) → (⟨S32x6256, .f32⟩ : BufTy).Contents (Elt Bits))]

theorem main_eq (d : Dev nD) : main (F := Bits) d = seqK ops (sc.run d 0 >>= fun _ => pure ⟨⟩) := rfl

theorem ops_sub_tc : ∀ op ∈ ops, op.bufs ⊆ StableHlo.tcRefs τ sig := by
  simp only [ops, List.forall_mem_cons, StableHlo.unary_bufs_sub, StableHlo.nullary_bufs_sub, StableHlo.binary_bufs_sub, StableHlo.reshape_bufs_sub,
    List.not_mem_nil, IsEmpty.forall_iff, implies_true, and_self]

theorem ops_sub : ∀ op ∈ ops, op.bufs ⊆ ucRefs τ sig := fun op h => sub_ucRefs op (ops_sub_tc op h)

theorem ops_fresh : ∀ op ∈ ops, op.fresh = ∅ := by
  simp only [ops, List.forall_mem_cons]
  exact ⟨rfl, rfl, rfl, rfl, rfl, rfl, rfl, rfl, rfl, rfl, rfl, rfl, rfl, rfl, rfl, rfl, rfl, rfl, rfl, rfl, rfl, rfl, rfl, rfl, rfl, rfl, rfl,
    fun _ h => absurd h List.not_mem_nil⟩

/-! ## What a tile is handed and hands back -/

abbrev D : Defs nD τ sig (Elt Bits) ΛP := Pipeline.defs (pcfgs (F := Bits)) defs₀
abbrev 𝒱 : Variants := 𝒱₀.lift
abbrev v₀ : 𝒱.V := Sum.inl none
abbrev EH : Emb UH (MT nD τ sig (HIx 1) (Elt Bits) ℕ UU ℕ) := embL

theorem facts : K.Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The grid point of subcore `s` of SparseCore `c`. -/
def coords (c : Fin (grid0.bound 0)) (s : Fin (grid0.bound 1)) : grid0.Coords :=
  fun | 0 => c | 1 => s | ⟨_ + 2, h⟩ => absurd h (Nat.not_lt.2 (Nat.le_add_left _ _))

theorem rowOf_coords (c : Fin (grid0.bound 0)) (s : Fin (grid0.bound 1)) : rowOf (coords c s) = 2 * s.val + c.val := rfl

theorem bound_zero : grid0.bound 0 = 2 := rfl
theorem bound_one : grid0.bound 1 = 16 := rfl

/-- The share of the table the tile at `c`, `s` reads it under. -/
abbrev tabShare (c : Fin (grid0.bound 0)) (s : Fin (grid0.bound 1)) : PosShare TreeShare :=
  shareTok fullShare (16 * 2) (finProdFinEquiv (Fin.cast bound_one s, Fin.cast bound_zero c))

section Pay

variable (mB : (d : Dev nD) → Buf (Elt Bits) (mLoc d)) (G : (d : Dev nD) → Buf (Elt Bits) (gLoc d)) (oB : (d : Dev nD) → Buf (Elt Bits) (oLoc d))
variable (want : Dev nD → Fin 32 → BitVec 32)

/-- What the tile at `c`, `s` holds, the result's rows holding `o`. -/
abbrev held₁ (d : Dev nD) (o : Buf (Elt Bits) (oLoc d)) (c : Fin (grid0.bound 0)) (s : Fin (grid0.bound 1)) : sProp 𝕄 :=
  iprop(mRowPts d (coords c s) (mB d) ∗ (gLoc d ↦{tabShare c s} G d) ∗ oRowPts d (coords c s) o)

/-- What one SparseCore's tiles hold together. -/
abbrev heldCore (d : Dev nD) (o : Buf (Elt Bits) (oLoc d)) (c : Fin (grid0.bound 0)) : sProp 𝕄 :=
  bigSep Finset.univ fun s : Fin (grid0.bound 1) => held₁ mB G d o c s

theorem nCore_zero : K.nCore 0 = grid0.bound 0 := rfl
theorem nSub_zero : K.nSub 0 = grid0.bound 1 := rfl

/-- The one call's payloads: each tile takes its row of chunk maxima, a share of the table and its row of the result,
    and brings them back with that row filled in. -/
def P : K.Pay (nD := nD) (Val := Elt Bits) (Name := ℕ) (U := UU) where
  st := fun q d c => match q with | 0 => heldCore mB G d (oB d) (Fin.cast nCore_zero c)
  dn := fun q d c => match q with | 0 => heldCore mB G d (wantBuf d (want d)) (Fin.cast nCore_zero c)
  go := fun q d c i => match q with | 0 => held₁ mB G d (oB d) (Fin.cast nCore_zero c) (Fin.cast nSub_zero i)
  td := fun q d c i => match q with | 0 => held₁ mB G d (wantBuf d (want d)) (Fin.cast nCore_zero c) (Fin.cast nSub_zero i)
  x := fun _ _ => iprop(emp)

instance held₁_storable (d : Dev nD) (o : Buf (Elt Bits) (oLoc d)) (c : Fin (grid0.bound 0)) (s : Fin (grid0.bound 1)) :
    BI.Storable (upEmb : UEmb _ 𝕄) (held₁ mB G d o c s) := inferInstance

instance heldCore_storable (d : Dev nD) (o : Buf (Elt Bits) (oLoc d)) (c : Fin (grid0.bound 0)) :
    BI.Storable (upEmb : UEmb _ 𝕄) (heldCore mB G d o c) := inferInstance

instance P_storable : (P mB G oB want).IsStorable where
  st q d c := match q with | 0 => heldCore_storable mB G d (oB d) (Fin.cast nCore_zero c)
  dn q d c := match q with | 0 => heldCore_storable mB G d (wantBuf d (want d)) (Fin.cast nCore_zero c)
  go q d c i := match q with | 0 => held₁_storable mB G d (oB d) (Fin.cast nCore_zero c) (Fin.cast nSub_zero i)
  td q d c i := match q with | 0 => held₁_storable mB G d (wantBuf d (want d)) (Fin.cast nCore_zero c) (Fin.cast nSub_zero i)

/-! ## The tile's obligation -/

theorem defs₀_vector (c : Fin τ.nSC) (s : Fin τ.nSub) :
    defs₀ (F := Bits) (.scVector c s) 0 ()
      = SparseCore.onTile hcore0 hsub0 (fun c s => cc0__sc_body (coords c s) gV (Memref.isWhole_whole _) mV (Memref.isWhole_whole _)
          oV (Memref.isWhole_whole _) maxV (Memref.isWhole_whole _) packV (Memref.isWhole_whole _) listV (Memref.isWhole_whole _)
          rowsV (Memref.isWhole_whole _) candV (Memref.isWhole_whole _) outV (Memref.isWhole_whole _) spareV (Memref.isWhole_whole _)
          cc0_scratch7 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hw : ∀ d L, Wanted d L (mB d) (G d) (want d)) : K.TileObl D 𝒱 (P mB G oB want) v₀ 0 := by
  intro d c i O W hO _ _
  simp only [show (P mB G oB want).ox = fun _ _ => 0 from rfl, add_zero]
  have hci : (K.core 0 c).val < grid0.bound 0 ∧ (K.sub 0 i).val < grid0.bound 1 := ⟨c.isLt, i.isLt⟩
  change _ ⊢ wp _ _ _ (Pipeline.liftProg (defs₀ (F := Bits) (.scVector (K.core 0 c) (K.sub 0 i)) 0 ())) _
  refine BI.Entails.trans ?_ (Pipeline.wp_liftProg D (Pipeline.defs_kernel pcfgs defs₀) 𝒱₀ _ Set.univ none _ _)
  rw [defs₀_vector]; simp only [SparseCore.onTile, hci, and_self, ↓reduceDIte]
  exact (tile_body d (coords ⟨_, hci.1⟩ ⟨_, hci.2⟩) facts (tabShare ⟨_, hci.1⟩ ⟨_, hci.2⟩) (mB d) (G d) (oB d) (want d)
    (hw d _) O W hO).trans (wp_mono frame _ _ fun _ => obl_post)

theorem vecSplit : K.VecSplit' (P mB G oB want) 0 := by
  intro d c
  show heldCore mB G d (oB d) (Fin.cast nCore_zero c) ⊢ |={Set.univ}=> iprop(heldCore mB G d (oB d) (Fin.cast nCore_zero c)
      ∗ (heldCore mB G d (wantBuf d (want d)) (Fin.cast nCore_zero c) -∗ heldCore mB G d (wantBuf d (want d)) (Fin.cast nCore_zero c)))
  iintro H; imodintro
  isplitl [H]; · iexact H
  iintro H; iexact H

/-! ## The tiles' rows and the whole arrays -/

/-- A tile, by its SparseCore and its subcore. -/
abbrev Pt : Type := Fin (grid0.bound 0) × Fin (grid0.bound 1)
abbrev mRows (p : Pt) : Finset S32x6256.Idx := (mRowK (coords p.1 p.2)).view.set
abbrev oRows (p : Pt) : Finset S32x16.Idx := (oRowK (coords p.1 p.2)).view.set

theorem row_ne {p p' : Pt} (h : p ≠ p') : rowOf (coords p.1 p.2) ≠ rowOf (coords p'.1 p'.2) := by
  rw [rowOf_coords, rowOf_coords]
  intro e
  have h1 : p.1.val < 2 := p.1.isLt
  have h2 : p'.1.val < 2 := p'.1.isLt
  exact h (Prod.ext (Fin.ext (by omega)) (Fin.ext (by omega)))

/-- The tile of a row. -/
abbrev ptOf (r : Fin 32) : Pt :=
  (⟨r.val % 2, Nat.mod_lt _ (by decide)⟩, ⟨r.val / 2, show r.val / 2 < 16 by have := r.isLt; omega⟩)

theorem row_ptOf (r : Fin 32) : rowOf (coords (ptOf r).1 (ptOf r).2) = r.val := by
  rw [rowOf_coords]
  exact Nat.div_add_mod r.val 2

theorem mRows_disjoint : ∀ p ∈ (Finset.univ : Finset Pt), ∀ p' ∈ (Finset.univ : Finset Pt), p ≠ p' → Disjoint (mRows p) (mRows p') :=
  fun p _ p' _ h => Finset.disjoint_left.mpr fun i h1 h2 => row_ne h (((mem_mRow _ i).mp h1).symm.trans ((mem_mRow _ i).mp h2))

theorem oRows_disjoint : ∀ p ∈ (Finset.univ : Finset Pt), ∀ p' ∈ (Finset.univ : Finset Pt), p ≠ p' → Disjoint (oRows p) (oRows p') :=
  fun p _ p' _ h => Finset.disjoint_left.mpr fun i h1 h2 => row_ne h (((mem_oRow _ i).mp h1).symm.trans ((mem_oRow _ i).mp h2))

theorem mRows_cover : (Finset.univ : Finset Pt).biUnion mRows = Finset.univ :=
  Finset.eq_univ_iff_forall.mpr fun i => Finset.mem_biUnion.mpr ⟨ptOf (i 0), Finset.mem_univ _, (mem_mRow _ i).mpr (row_ptOf (i 0)).symm⟩

theorem oRows_cover : (Finset.univ : Finset Pt).biUnion oRows = Finset.univ :=
  Finset.eq_univ_iff_forall.mpr fun i => Finset.mem_biUnion.mpr ⟨ptOf (i 0), Finset.mem_univ _, (mem_oRow _ i).mpr (row_ptOf (i 0)).symm⟩

theorem mPts_rows (d : Dev nD) (f : Buf (Elt Bits) (mLoc d)) :
    (mLoc d ↦{fullShare} f : sProp 𝕄) = bigSep Finset.univ fun p : Pt => mLoc d ↦[mRows p]{fullShare} f := by
  rw [← pointsTo_biUnion Finset.univ (ℓ := mLoc d) mRows mRows_disjoint, mRows_cover]; try rfl

theorem oPts_rows (d : Dev nD) (f : Buf (Elt Bits) (oLoc d)) :
    (oLoc d ↦{fullShare} f : sProp 𝕄) = bigSep Finset.univ fun p : Pt => oLoc d ↦[oRows p]{fullShare} f := by
  rw [← pointsTo_biUnion Finset.univ (ℓ := oLoc d) oRows oRows_disjoint, oRows_cover]; try rfl

/-- The tiles, numbered. -/
def ptEquiv : Pt ≃ Fin (16 * 2) :=
  (Equiv.prodComm _ _).trans (((finCongr bound_one).prodCongr (finCongr bound_zero)).trans finProdFinEquiv)

theorem gPts_shares (d : Dev nD) (f : Buf (Elt Bits) (gLoc d)) :
    (gLoc d ↦{fullShare} f : sProp 𝕄) ⊢ bigSep Finset.univ fun p : Pt => gLoc d ↦{tabShare p.1 p.2} f := by
  refine (pointsTo_toks (ℓ := gLoc d) (S := Finset.univ) (f := f) fullShare (16 * 2)).1.trans ?_
  refine sep_elim_right.trans ?_
  rw [bigSep_univ_equiv ptEquiv]
  exact .refl

/-- All the tiles' holdings, at once. -/
theorem heldAll_eq (d : Dev nD) (o : Buf (Elt Bits) (oLoc d)) :
    (bigSep Finset.univ fun c : Fin (grid0.bound 0) => heldCore mB G d o c)
      = iprop((mLoc d ↦{fullShare} mB d) ∗ (bigSep Finset.univ fun p : Pt => gLoc d ↦{tabShare p.1 p.2} G d) ∗ oLoc d ↦{fullShare} o) := by
  rw [mPts_rows, oPts_rows, ← bigSep_sep', ← bigSep_sep', bigSep_univ_prod]

theorem st0_eq (d : Dev nD) : (bigSep Finset.univ fun c : Fin (K.nCore 0) => (P mB G oB want).st 0 d c)
    = iprop((mLoc d ↦{fullShare} mB d) ∗ (bigSep Finset.univ fun p : Pt => gLoc d ↦{tabShare p.1 p.2} G d) ∗ oLoc d ↦{fullShare} oB d) :=
  heldAll_eq mB G d (oB d)

theorem dn0_eq (d : Dev nD) : (bigSep Finset.univ fun c : Fin (K.nCore 0) => (P mB G oB want).dn 0 d c)
    = iprop((mLoc d ↦{fullShare} mB d) ∗ (bigSep Finset.univ fun p : Pt => gLoc d ↦{tabShare p.1 p.2} G d) ∗ oLoc d ↦{fullShare} wantBuf d (want d)) :=
  heldAll_eq mB G d (wantBuf d (want d))

/-! ## The launch element of the certificate's ghost state -/

def u₀ : UU := (initOf K.hsCells K.hsToks, 1)

theorem bigSep_nothing {I : Type} (s : Finset I) : (bigSep s fun _ => iprop(emp)) = (iprop(emp) : sProp 𝕄) := bigSep_emp_const s

theorem hu₀ : (ownU u₀ : sProp 𝕄)
    ⊢ |={Set.univ}=> iprop(BI.own (EH (initOf K.hsCells K.hsToks)) ∗ (bigSep Finset.univ fun _ : Dev nD => iprop(emp))
        ∗ bigSep Finset.univ fun thr : Thread nD τ => bigSep Finset.univ fun q : Fin 1 => (P mB G oB want).x q thr) := by
  unfold u₀
  iintro Hu
  ihave H := (ownU_pair (initOf K.hsCells K.hsToks) (1 : Counters)) $$ Hu
  icases H with ⟨HH, -⟩
  imodintro
  isplitl [HH]; · iexact HH
  isplitr; · rw [bigSep_nothing]; iempintro
  rw [show (bigSep Finset.univ fun thr : Thread nD τ => bigSep Finset.univ fun q : Fin 1 => (P mB G oB want).x q thr) = bigSep Finset.univ fun _ => iprop(emp) from
    bigSep_congr fun _ _ => bigSep_univ_of_subsingleton (0 : Fin 1), bigSep_nothing]
  iempintro

end Pay

/-! ## @main on the TensorCore -/

variable (m : (ℓ : Loc nD τ sig) → Buf (Elt Bits) ℓ) (ρ : Dev nD → PrngReg)

abbrev xLoc (d : Dev nD) : Loc nD τ sig := (SparseCore.T d).loc main_arg0

/-- The device's arrays when the call starts. -/
def atCall (d : Dev nD) : Valuation τ sig (Elt Bits) := after ops (launchContents m d)

/-- The chunk maxima, the table of chunks and the result's old contents, at the call. -/
def mAt (d : Dev nD) : Buf (Elt Bits) (mLoc d) := atCall m d (Proc.devRef .tc main_v17)
def gAt (d : Dev nD) : Buf (Elt Bits) (gLoc d) := atCall m d (Proc.devRef .tc main_v11)
def oAt (d : Dev nD) : Buf (Elt Bits) (oLoc d) := atCall m d (Proc.devRef .tc main_v18)

/-- The arrays the call and the claims are about. -/
abbrev four : Finset (DevRef τ sig) :=
  {Proc.devRef .tc main_arg0, Proc.devRef .tc main_v17, Proc.devRef .tc main_v11, Proc.devRef .tc main_v18}

theorem four_sub : four ⊆ ucRefs τ sig := by
  intro b hb
  simp only [four, Finset.mem_insert, Finset.mem_singleton] at hb
  rcases hb with h | h | h | h <;> rw [h] <;>
    exact Finset.mem_filter.mpr ⟨StableHlo.devRef_mem_tcRefs _, by decide⟩

theorem arg0_kept (d : Dev nD) : atCall m d (Proc.devRef .tc main_arg0) = m (xLoc d) := by
  unfold atCall
  after_results

theorem held_four (d : Dev nD) : (held (T d) four (atCall m d) : sProp 𝕄)
    = iprop((xLoc d ↦{fullShare} m (xLoc d)) ∗ (mLoc d ↦{fullShare} mAt m d) ∗ (gLoc d ↦{fullShare} gAt m d) ∗ oLoc d ↦{fullShare} oAt m d) := by
  unfold held four
  rw [SparseCore.bigSep_insert' (by decide), SparseCore.bigSep_insert' (by decide), SparseCore.bigSep_insert' (by decide), bigSep_singleton, arg0_kept]
  rfl

variable (want : Dev nD → Fin 32 → BitVec 32)

abbrev PM := P (mAt m) (gAt m) (oAt m) want

/-- What @main leaves the claims: the logits as they were, the result as wanted. -/
abbrev FIN (d : Dev nD) : sProp 𝕄 := iprop((xLoc d ↦{fullShare} m (xLoc d)) ∗ oLoc d ↦{fullShare} wantBuf d (want d))

/-- @main on device `d`'s TensorCore: the host operations, then the call. -/
theorem hmain (κ : GSem nD τ sig → ℕ) (d : Dev nD) :
    iprop(K.ctx EH (PM m want) κ ∗ K.tcSt EH d 0 ∗ K.tcRes m ρ d ∗ emp)
      ⊢ wp frame (wpE (K.defs D) 𝒱 (SparseCore.T d) none) Set.univ (main (F := Bits) d)
          fun _ => iprop(K.tcSt EH d 1 ∗ FIN m want d ∗ K.tcEnd d) := by
  unfold SparseCore.Cfg.tcRes SparseCore.Cfg.tcEnd
  rw [show (unscopedBufs d (fun b => m ((d.tc : Thread nD τ).loc b)) : sProp 𝕄) = held (T d) (ucRefs τ sig) (launchContents m d) from
    unscopedBufs_held d (launchContents m d), main_eq, ← StableHlo.seq_bind_seqK]
  iintro ⟨#Hctx, Hst, ⟨Hb, Hheld, Hts, -⟩, -⟩
  iapply (wp_seq 𝒱 none Set.univ d (ucRefs τ sig) (fun _ => sc.run d 0 >>= fun _ => pure ⟨⟩) ops ops_sub ops_fresh (launchContents m d)) $$ [Hb Hheld]
  · isplitl [Hb] <;> iassumption
  iintro ⟨Hb, Hheld⟩
  ihave Hh := (Entails.of_eq (show (held (d.tc : Thread nD τ) (ucRefs τ sig) (after ops (launchContents m d)) : sProp 𝕄)
      = iprop(held (T d) four (atCall m d) ∗ held (T d) (ucRefs τ sig \ four) (atCall m d)) from StableHlo.held_sub_split (T d) four_sub (atCall m d))) $$ Hheld
  icases Hh with ⟨Hh, -⟩
  ihave Hh := (Entails.of_eq (held_four m d)) $$ Hh
  icases Hh with ⟨Hx, Hm, Hg, Ho⟩
  ihave Hg := (gPts_shares d (gAt m d)) $$ Hg
  rw [wp_bind]
  iapply (K.wp_run D 𝒱 (EH := EH) (P := PM m want) κ d 0) $$ [Hst Hx Hm Hg Ho Hb Hts]
  isplitr; · iexact Hctx
  isplitl [Hst]; · iexact Hst
  isplitl [Hm Hg Ho]
  · rw [st0_eq]
    isplitl [Hm]; · iexact Hm
    isplitl [Hg]; · iexact Hg
    iexact Ho
  iintro ⟨Hst, Hdn⟩
  ihave Hdn' := (Entails.of_eq (dn0_eq (mAt m) (gAt m) (oAt m) want d)) $$ Hdn
  icases Hdn' with ⟨-, -, Ho⟩
  rw [wp_pure]
  imodintro
  isplitl [Hst]; · iexact Hst
  isplitr [Hb Hts]
  · isplitl [Hx]; · iexact Hx
    iexact Ho
  isplitl [Hb] <;> iassumption

def fq (d : Dev nD) (s' : Phys nD τ sig (Elt Bits)) : Prop :=
  s'.mem.mem (xLoc d) = m (xLoc d) ∧ s'.mem.mem (oLoc d) = wantBuf d (want d)

theorem hfin (d : Dev nD) (s' : Phys nD τ sig (Elt Bits)) : iprop(FIN m want d ∗ SI s') ⊢ (⌜fq m want d s'⌝ : sProp 𝕄) := by
  iintro ⟨⟨Hx, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (SI_pointsTo_agree (st := s') (ℓ := oLoc d) (I := Finset.univ) (q := fullShare) (f := wantBuf d (want d))) $$ [HSI Ho]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt Bits) → Prop := fun r =>
  (∀ c : Dev nD, r.2.mem (xLoc c) = m (xLoc c) ∧ r.2.mem (oLoc c) = wantBuf c (want c)) ∧ r.2.sem = fun _ => 0

/-- The program runs, leaves the logits as they were, and its result holds each row's wanted word in every lane. -/
theorem run_main (hw : ∀ d L, Wanted d L (mAt m d) (gAt m d) (want d)) :
    θ_run (Cert.Kernel.defs (F := Bits)) (Cert.Kernel.threads (F := Bits)) ⟨m, fun _ => 0, ρ⟩ (QC m want) :=
  SparseCore.Cfg.θ_run_sc_quiescent (K := K) (D := D) (𝒱 := 𝒱) (EH := EH) (P := PM m want) (A := ∅) facts v₀
    (fun q hq => match q with | 0 => nomatch hq)
    (fun q _ => match q with | 0 => tileObl (mAt m) (gAt m) (oAt m) want hw)
    (fun q _ => match q with | 0 => SparseCore.Cfg.VecSplit.of_plain (vecSplit (mAt m) (gAt m) (oAt m) want))
    m ρ main (fun _ => iprop(emp)) (FIN m want) u₀ (sep_elim_left.trans (hu₀ (mAt m) (gAt m) (oAt m) want)) (hmain m ρ want) (fq m want) (hfin m want)
    (QC m want) (fun _ h hz => ⟨h, hz⟩)

end Cert.Launch

end
-- ==== Proof.HostValue.lean ====
/-
  What the host operations before the threshold call leave: the maxima of the row's chunks of 160 logits, and the table
  of those chunks, each read at an index.
-/
module
public import proofs.«01_k».proof.Proof.Launch
public import Idealize.ShloMosaic.Lib.KernelVsHost
@[expose] public section

noncomputable section

namespace Cert.Launch

open Cert.Kernel Cert.Kernel.Gen Cert.Tile Cert.RowMath Cert.Lanes Cert.Payloads
open Idealize.ShloMosaic Idealize.ShloMosaic.ValueIdx
open Idealize.ShloMosaic.StableHlo (after launchContents)

/-! ## The maximum of a list of words -/

theorem maxsi_toInt (a b : BitVec 32) : (IntOp.maxsi a b).toInt = max a.toInt b.toInt := by
  unfold IntOp.maxsi
  rw [BitVec.slt_eq_decide]
  split <;> rename_i h <;> simp only [decide_eq_true_eq] at h <;> omega

theorem maxsi_cases (a b : BitVec 32) : IntOp.maxsi a b = a ∨ IntOp.maxsi a b = b := by
  unfold IntOp.maxsi; split
  · exact Or.inl rfl
  · exact Or.inr rfl

/-- A fold of maxima from `v` bounds `v` and every word folded, and is one of them. -/
theorem foldl_maxsi {β : Type} (g : β → BitVec 32) (l : List β) : ∀ v : BitVec 32,
    v.toInt ≤ (l.foldl (fun r n => IntOp.maxsi r (g n)) v).toInt
      ∧ (∀ n ∈ l, (g n).toInt ≤ (l.foldl (fun r n => IntOp.maxsi r (g n)) v).toInt)
      ∧ (l.foldl (fun r n => IntOp.maxsi r (g n)) v = v ∨ ∃ n ∈ l, l.foldl (fun r n => IntOp.maxsi r (g n)) v = g n) := by
  induction l with
  | nil => intro v; exact ⟨le_refl _, fun n h => absurd h List.not_mem_nil, Or.inl rfl⟩
  | cons a l ih =>
    intro v
    obtain ⟨h1, h2, h3⟩ := ih (IntOp.maxsi v (g a))
    rw [maxsi_toInt] at h1
    rw [List.foldl_cons]
    refine ⟨le_trans (le_max_left _ _) h1, fun n hn => ?_, ?_⟩
    · rcases List.mem_cons.mp hn with h | h
      · rw [h]; exact le_trans (le_max_right _ _) h1
      · exact h2 n h
    · rcases h3 with h | ⟨n, hn, h⟩
      · rcases maxsi_cases v (g a) with e | e
        · exact Or.inl (h.trans e)
        · exact Or.inr ⟨a, List.mem_cons_self, h.trans e⟩
      · exact Or.inr ⟨n, List.mem_cons_of_mem _ hn, h⟩

/-! ## The operations, in plain words -/

variable (x : S32x1000000.Idx → BitVec 32)

/-- Each logit's word as an integer in the logits' order. -/
def wordKeys : S32x1000000.Idx → BitVec 32 := fun i => sortableKey (x i)

/-- The greatest of each chunk. -/
def chunkMaxima : S32x6250.Idx → BitVec 32 :=
  Host.reduce IntOp.maxsi (shapeCast S32x6250x160 (wordKeys x) shapeCasts_S32x1000000_S32x6250x160) (constantI S_ 32 2147483648#32)
    reducesTo_S32x6250x160_S32x6250_d2 h_S_

/-- Those rows filled up to a whole number of registers. -/
def filledMaxima : S32x6256.Idx → BitVec 32 :=
  pad S32x6256 ![0, 0] ![0, 6] ![0, 0] (chunkMaxima x) (constantI S_ 32 2147483648#32) pads_S32x6250_S32x6256_000_060 h_S_

/-- The chunks, one to a row. -/
def chunkRows : S200000x160.Idx → BitVec 32 := shapeCast S200000x160 x shapeCasts_S32x1000000_S200000x160

/-- Those rows filled up with some word. -/
def filledRows (z : S_.Idx → BitVec 32) : S200000x256.Idx → BitVec 32 :=
  pad S200000x256 ![0, 0] ![0, 96] ![0, 0] (chunkRows x) z pads_S200000x160_S200000x256_000_0960 h_S_

theorem wordKeys_eq : xori (bitcastToInt (F := Bits) (φ := .f32) x)
    (andi (Host.shrsi (bitcastToInt (F := Bits) (φ := .f32) x) (broadcastInDim S32x1000000 ![] bcast_S_S32x1000000 (constantI S_ 32 31#32)))
      (broadcastInDim S32x1000000 ![] bcast_S_S32x1000000 (constantI S_ 32 2147483647#32))) = wordKeys x :=
  funext fun i => xori_andi_shrsi_eq_sortableKey .host (x i)

theorem asWords_eq (p : S32x6256.Idx → BitVec 32) : xori p
    (andi (Host.shrsi p (broadcastInDim S32x6256 ![] bcast_S_S32x6256 (constantI S_ 32 31#32)))
      (broadcastInDim S32x6256 ![] bcast_S_S32x6256 (constantI S_ 32 2147483647#32))) = fun i => sortableKey (p i) :=
  funext fun i => xori_andi_shrsi_eq_sortableKey .host (p i)

variable (m : (ℓ : Loc nD τ sig) → Buf (Elt Bits) ℓ)

theorem asFloat_eq {s : Shape} (p : s.Idx → BitVec 32) : bitcastToFloat (F := Bits) .f32 p = p := rfl

theorem launch_arg0 (d : Dev nD) : launchContents m d (Proc.devRef .tc main_arg0) = m (xLoc d) := rfl

/-- The last eight operations, from the filled-up maxima to their floats. -/
theorem v17_of (W : Valuation τ sig (Elt Bits)) :
    after (ops.drop 19) W (Proc.devRef .tc main_v17) = fun i => sortableKey ((W (Proc.devRef .tc main_v8) : S32x6256.Idx → BitVec 32) i) := by
  unfold ops
  simp only [List.drop_succ_cons, List.drop_zero]
  after_results
  rw [asWords_eq, asFloat_eq]
  rfl

/-- The eight before those, from the chunks' maxima. -/
theorem v8_of (W : Valuation τ sig (Elt Bits)) :
    after ((ops.drop 11).take 8) W (Proc.devRef .tc main_v8)
      = pad S32x6256 ![0, 0] ![0, 6] ![0, 0] (W (Proc.devRef .tc main_v7) : S32x6250.Idx → BitVec 32) (constantI S_ 32 2147483648#32) pads_S32x6250_S32x6256_000_060 h_S_ := by
  unfold ops
  simp only [List.drop_succ_cons, List.drop_zero, List.take_succ_cons, List.take_zero]
  after_results
  rfl

/-- The two before those, from the integer keys laid out by chunks. -/
theorem v7_of (W : Valuation τ sig (Elt Bits)) :
    after ((ops.drop 9).take 2) W (Proc.devRef .tc main_v7)
      = Host.reduce IntOp.maxsi (W (Proc.devRef .tc main_v6) : S32x6250x160.Idx → BitVec 32) (constantI S_ 32 2147483648#32)
          reducesTo_S32x6250x160_S32x6250_d2 h_S_ := by
  unfold ops
  simp only [List.drop_succ_cons, List.drop_zero, List.take_succ_cons, List.take_zero]
  after_results

/-- The first nine, from the logits. -/
theorem v6_of (W : Valuation τ sig (Elt Bits)) :
    after (ops.take 9) W (Proc.devRef .tc main_v6)
      = shapeCast S32x6250x160 (wordKeys (W (Proc.devRef .tc main_arg0) : S32x1000000.Idx → BitVec 32)) shapeCasts_S32x1000000_S32x6250x160 := by
  unfold ops
  simp only [List.take_succ_cons, List.take_zero]
  after_results
  rw [wordKeys_eq]
  rfl

theorem ops_split : ops = ops.take 9 ++ ((ops.drop 9).take 2 ++ ((ops.drop 11).take 8 ++ ops.drop 19)) := by
  rw [show ops.drop 19 = (ops.drop 11).drop 8 from by rw [List.drop_drop], List.take_append_drop,
    show ops.drop 11 = (ops.drop 9).drop 2 from by rw [List.drop_drop], List.take_append_drop, List.take_append_drop]

theorem mAt_eq (d : Dev nD) : mAt m d = fun i => sortableKey (filledMaxima (m (xLoc d)) i) := by
  have e : atCall m d = after (ops.drop 19) (after ((ops.drop 11).take 8) (after ((ops.drop 9).take 2) (after (ops.take 9) (launchContents m d)))) := by
    rw [← StableHlo.after_append, ← StableHlo.after_append, ← StableHlo.after_append, ← ops_split]; rfl
  unfold mAt
  rw [e, v17_of, v8_of, v7_of, v6_of, launch_arg0]
  rfl

theorem gAt_eq (d : Dev nD) : ∃ z, gAt m d = shapeCast S200000x2x128 (filledRows (m (xLoc d)) z) shapeCasts_S200000x256_S200000x2x128 := by
  refine ⟨sitofp (F := Bits) .f32 (constantI S_ 32 0#32), ?_⟩
  obtain ⟨z, hz⟩ : ∃ z : S200000x2x128.Idx → BitVec 32, z = shapeCast S200000x2x128 (filledRows (m (xLoc d)) (sitofp (F := Bits) .f32 (constantI S_ 32 0#32))) shapeCasts_S200000x256_S200000x2x128 := ⟨_, rfl⟩
  refine Eq.trans ?_ hz
  unfold gAt atCall
  after_results
  simp only [cast_eq, eq_rec_constant, launch_arg0]
  rw [hz]
  rfl

/-! ## Each at an index -/

theorem chunkRows_apply (r : Fin 32) (i : Fin 6250) (t : Fin 160) (hr : 6250 * r.val + i.val < 200000) (hq : 160 * i.val + t.val < 1000000) :
    chunkRows x (ix2 ⟨6250 * r.val + i.val, hr⟩ t) = x (ix2 r ⟨160 * i.val + t.val, hq⟩) := by
  unfold chunkRows
  refine shapeCast_apply x _ _ _ ?_
  rw [Shape.rowMajor_val_two, Shape.rowMajor_val_two]
  show r.val * 1000000 + (160 * i.val + t.val) = (6250 * r.val + i.val) * 160 + t.val
  omega

end Cert.Launch

end
-- ==== Proof.RowsAt.lean ====
/-
  A tile's row of the host's two arrays, as the tile's own statement asks for it: the maxima of the row's chunks and the
  chunks themselves, against the keys of the row of logits.
-/
module
public import proofs.«01_k».proof.Proof.HostValue
@[expose] public section

noncomputable section

namespace Cert.Launch

open Cert.Kernel Cert.Kernel.Gen Cert.Tile Cert.RowMath Cert.Lanes Cert.Payloads
open Idealize.ShloMosaic Idealize.ShloMosaic.ValueIdx

variable (x : S32x1000000.Idx → BitVec 32)

/-- The keys of a row of logits, by position. -/
def rowKeys (r : Fin 32) (q : ℕ) : ℤ := if h : q < 1000000 then key (x (ix2 r ⟨q, h⟩)) else 0

theorem rowKeys_of_lt (r : Fin 32) (q : ℕ) (h : q < 1000000) : rowKeys x r q = key (x (ix2 r ⟨q, h⟩)) := dif_pos h

/-! ## The chunk maxima -/

theorem chunkWord (r : Fin 32) (i : Fin 6250) (t : Fin 160) (hq : 160 * i.val + t.val < 1000000) :
    shapeCast S32x6250x160 (wordKeys x) shapeCasts_S32x1000000_S32x6250x160 (ix3 r i t) = sortableKey (x (ix2 r ⟨160 * i.val + t.val, hq⟩)) := by
  refine (shapeCast_apply (wordKeys x) shapeCasts_S32x1000000_S32x6250x160 (ix3 r i t) (ix2 r ⟨160 * i.val + t.val, hq⟩) ?_).trans rfl
  rw [Shape.rowMajor_val_two, Shape.rowMajor_val_three]
  show r.val * 1000000 + (160 * i.val + t.val) = (r.val * 6250 + i.val) * 160 + t.val
  omega

/-- An element of the chunk folds into the chunk's maximum, and only such an element. -/
theorem drop_chunk (k : S32x6250x160.Idx) (r : Fin 32) (i : Fin 6250) :
    reducesTo_S32x6250x160_S32x6250_d2.drop k = ix2 r i ↔ k 0 = r ∧ k 1 = i := by
  have h0 : (reducesTo_S32x6250x160_S32x6250_d2.drop k 0 : Nat) = k 0 := Shape.ReducesTo.drop_apply_val_of_eq _ k 0 0
  have h1 : (reducesTo_S32x6250x160_S32x6250_d2.drop k 1 : Nat) = k 1 := Shape.ReducesTo.drop_apply_val_of_eq _ k 1 1
  constructor
  · intro e
    rw [e] at h0 h1
    exact ⟨Fin.ext h0.symm, Fin.ext h1.symm⟩
  · rintro ⟨e0, e1⟩
    funext a
    match a with
    | 0 => exact Fin.ext (h0.trans (congrArg Fin.val e0))
    | 1 => exact Fin.ext (h1.trans (congrArg Fin.val e1))

/-- A maximum over one axis bounds what it folds, and is its start or one of those. -/
theorem reduce_max {s t u : Shape} {axes : List (Fin s.rank)} (y : s.Idx → BitVec 32) (v : u.Idx → BitVec 32) (h : s.ReducesTo axes t) (hu : 0 < u.numel)
    (j : t.Idx) : (∀ k, h.drop k = j → (y k).toInt ≤ (Host.reduce IntOp.maxsi y v h hu j).toInt)
      ∧ (v (Shape.Idx.first hu)).toInt ≤ (Host.reduce IntOp.maxsi y v h hu j).toInt
      ∧ (Host.reduce IntOp.maxsi y v h hu j = v (Shape.Idx.first hu) ∨ ∃ k, h.drop k = j ∧ Host.reduce IntOp.maxsi y v h hu j = y k) := by
  obtain ⟨h1, h2, h3⟩ := foldl_maxsi (fun n => y (s.rowMajor.symm n))
    ((List.finRange s.numel).filter fun n => h.drop (s.rowMajor.symm n) = j) (v (Shape.Idx.first hu))
  refine ⟨fun k hk => ?_, h1, h3.imp id ?_⟩
  · have := h2 (s.rowMajor k) (List.mem_filter.mpr ⟨List.mem_finRange _, by simpa using hk⟩)
    rw [Equiv.symm_apply_apply] at this
    exact this
  · rintro ⟨n, hn, e⟩
    exact ⟨s.rowMajor.symm n, by simpa using (List.mem_filter.mp hn).2, e⟩

/-- The greatest word of a chunk bounds the chunk's keys and is one of them. -/
theorem chunkMaxima_spec (r : Fin 32) (i : Fin 6250) :
    (∀ t < 160, rowKeys x r (160 * i.val + t) ≤ (chunkMaxima x (ix2 r i)).toInt)
      ∧ ∃ t < 160, rowKeys x r (160 * i.val + t) = (chunkMaxima x (ix2 r i)).toInt := by
  obtain ⟨h1, h2, h3⟩ := reduce_max (shapeCast S32x6250x160 (wordKeys x) shapeCasts_S32x1000000_S32x6250x160) (constantI S_ 32 2147483648#32)
    reducesTo_S32x6250x160_S32x6250_d2 h_S_ (ix2 r i)
  have hi := i.isLt
  have hb : ∀ t < 160, rowKeys x r (160 * i.val + t) ≤ (chunkMaxima x (ix2 r i)).toInt := by
    intro t ht
    rw [rowKeys_of_lt x r _ (by omega)]
    have := h1 (ix3 r i ⟨t, ht⟩) ((drop_chunk _ _ _).mpr ⟨rfl, rfl⟩)
    rw [chunkWord x r i ⟨t, ht⟩ (by show 160 * i.val + t < 1000000; omega)] at this
    exact this
  refine ⟨hb, ?_⟩
  rcases h3 with h | ⟨k, hk, h⟩
  · refine ⟨0, by omega, le_antisymm (hb 0 (by omega)) ?_⟩
    rw [rowKeys_of_lt x r _ (by omega)]
    unfold chunkMaxima
    rw [h]
    have := (toInt_bounds (sortableKey (x (ix2 r ⟨160 * i.val + 0, by omega⟩)))).1
    exact le_trans (le_of_eq (by decide)) this
  · obtain ⟨e0, e1⟩ := (drop_chunk _ _ _).mp hk
    have e : k = ix3 r i (k 2) := by
      funext a
      match a with
      | 0 => exact e0
      | 1 => exact e1
      | 2 => rfl
    have ht : (k 2).val < 160 := (k 2).isLt
    refine ⟨(k 2).val, ht, ?_⟩
    rw [rowKeys_of_lt x r _ (by omega)]
    unfold chunkMaxima
    rw [h]
    exact congrArg BitVec.toInt ((congrArg _ e).trans (chunkWord x r i (k 2) (by omega))).symm

theorem filledMaxima_inside (r : Fin 32) (k : Fin 6256) (hk : k.val < 6250) : filledMaxima x (ix2 r k) = chunkMaxima x (ix2 r ⟨k.val, hk⟩) := by
  unfold filledMaxima
  refine pad_apply_of_inside _ _ _ _ _ _ _ (ix2 r k) (ix2 r ⟨k.val, hk⟩) fun a => ?_
  match a with
  | 0 => show r.val = 0 + r.val * 1; omega
  | 1 => show k.val = 0 + k.val * 1; omega

theorem filledMaxima_beyond (r : Fin 32) (k : Fin 6256) (hk : ¬ k.val < 6250) : filledMaxima x (ix2 r k) = 2147483648#32 := by
  unfold filledMaxima
  refine (pad_apply_of_not_inside _ _ _ _ _ _ _ (ix2 r k) 1 ?_).trans rfl
  rintro ⟨-, -, h⟩
  have h' : (k.val - 0) / 1 < 6250 := h
  omega

/-! ## The table of chunks -/

theorem tableWord (z : S_.Idx → BitVec 32) (r : Fin 32) (i : Fin 6250) (t : Fin 160) (hr : 6250 * r.val + i.val < 200000) (hq : 160 * i.val + t.val < 1000000) :
    shapeCast S200000x2x128 (filledRows x z) shapeCasts_S200000x256_S200000x2x128
        (ix3 (⟨6250 * r.val + i.val, hr⟩ : Fin 200000) (⟨t.val / 128, by omega⟩ : Fin 2) (⟨t.val % 128, Nat.mod_lt _ (by decide)⟩ : Fin 128))
      = x (ix2 r ⟨160 * i.val + t.val, hq⟩) := by
  refine (shapeCast_apply (filledRows x z) shapeCasts_S200000x256_S200000x2x128 _ (ix2 (⟨6250 * r.val + i.val, hr⟩ : Fin 200000) (⟨t.val, by omega⟩ : Fin 256)) ?_).trans ?_
  · rw [Shape.rowMajor_val_two, Shape.rowMajor_val_three]
    show (6250 * r.val + i.val) * 256 + t.val = ((6250 * r.val + i.val) * 2 + t.val / 128) * 128 + t.val % 128
    omega
  · unfold filledRows
    refine (pad_apply_of_inside _ _ _ _ _ _ _ _ (ix2 (⟨6250 * r.val + i.val, hr⟩ : Fin 200000) t) fun a => ?_).trans (chunkRows_apply x r i t hr hq)
    match a with
    | 0 => show 6250 * r.val + i.val = 0 + (6250 * r.val + i.val) * 1; omega
    | 1 => show t.val = 0 + t.val * 1; omega

/-! ## A tile's row -/

variable (m : (ℓ : Loc nD τ sig) → Buf (Elt Bits) ℓ)

/-- The tile's row of the maxima, read at a position. -/
theorem mRow_apply (d : Dev nD) (L : grid0.Coords) (mB : S32x6256.Idx → BitVec 32) (k : Fin 6256) :
    mRow d L mB (Shape.Idx.ofFin k) = mB (ix2 ⟨rowOf L, row_lt L⟩ k) := by
  have hr := (mem_mRow L ((mRowK L).view.emb (Shape.Idx.ofFin k))).mp (Finset.mem_map.mpr ⟨_, Finset.mem_univ _, rfl⟩)
  show (mRowK L).view.read (Elt Bits) mB _ = _
  rw [View.read_apply]
  refine (cast_eq _ _).trans (congrArg mB ?_)
  funext a
  match a with
  | 0 => exact Fin.ext hr
  | 1 =>
    apply Fin.ext
    have hm := Shape.rowMajor_reshapeEquiv (s := S1x6256) (s' := S6256) squeezes_S1x6256_S6256.numel_eq (Shape.Idx.ofFin k)
    rw [Shape.rowMajor_val_two, Shape.rowMajor_val_one] at hm
    generalize hy : Shape.reshapeEquiv (s := S1x6256) (s' := S6256) squeezes_S1x6256_S6256.numel_eq (Shape.Idx.ofFin k) = y at hm
    have hy0 : (y 0).val < 1 := (y 0).isLt
    have hm' : (y 0).val * 6256 + (y 1).val = k.val := hm
    have h1 : k0_off1 L 1 = 0 := congrFun (k0_off1_eq L) 1
    show k0_off1 L 1 + 1 * (Shape.reshapeEquiv (s := S1x6256) (s' := S6256) squeezes_S1x6256_S6256.numel_eq (Shape.Idx.ofFin k) 1).val = k.val
    rw [hy, h1]
    omega

theorem key_mRow (d : Dev nD) (L : grid0.Coords) (i : ℕ) (hi : i < 6256) :
    keys (n := 6256) (mRow d L (mAt m d)) i = (filledMaxima (m (xLoc d)) (ix2 ⟨rowOf L, row_lt L⟩ ⟨i, hi⟩)).toInt := by
  unfold keys
  rw [at1_of_lt _ i hi, mRow_apply, mAt_eq]
  unfold key
  rw [sortableKey_sortableKey]

theorem rowData (d : Dev nD) (L : grid0.Coords) :
    RowData (rowOf L) (rowKeys (m (xLoc d)) ⟨rowOf L, row_lt L⟩) (mRow d L (mAt m d)) (gAt m d) := by
  have hinside : ∀ i (hi : i < 6250), keys (n := 6256) (mRow d L (mAt m d)) i = (chunkMaxima (m (xLoc d)) (ix2 ⟨rowOf L, row_lt L⟩ ⟨i, hi⟩)).toInt := by
    intro i hi
    rw [key_mRow m d L i (by omega), filledMaxima_inside _ _ _ hi]
  refine ⟨⟨fun i hi t ht => ?_, fun i hi => ?_, fun i hi hi' => ?_, fun i hi => ?_, fun q hq => ?_⟩, fun i hr hi t ht => ?_⟩
  · rw [hinside i hi]
    exact (chunkMaxima_spec _ _ ⟨i, hi⟩).1 t ht
  · obtain ⟨t, ht, e⟩ := (chunkMaxima_spec (m (xLoc d)) ⟨rowOf L, row_lt L⟩ ⟨i, hi⟩).2
    exact ⟨t, ht, e.trans (hinside i hi).symm⟩
  · rw [key_mRow m d L i hi', filledMaxima_beyond _ _ _ (by show ¬ i < 6250; omega)]
    decide
  · rw [key_mRow m d L i hi]
    have := (toInt_bounds (filledMaxima (m (xLoc d)) (ix2 ⟨rowOf L, row_lt L⟩ ⟨i, hi⟩))).1
    exact this
  · rw [rowKeys_of_lt _ _ q hq]
    exact (toInt_bounds _).1
  · obtain ⟨z, hz⟩ := gAt_eq m d
    rw [hz, rowKeys_of_lt _ _ _ (by omega)]
    exact congrArg key (tableWord (m (xLoc d)) z ⟨rowOf L, row_lt L⟩ ⟨i, hi⟩ ⟨t, ht⟩ hr (by show 160 * i + t < 1000000; omega))

end Cert.Launch

end
-- ==== Proof.RefRow.lean ====
/-
  The reference's word for a row: the 64th of the row's logits in descending order has fewer than 64 of them above it,
  and with itself at least 64 that reach it.
-/
module
public import proofs.«01_k».proof.Proof.RowsAt
public import proofs.«01_k».proof.Proof.Gen.Reference.Run
public import Idealize.ShloMosaic.Lib.SortFacts
@[expose] public section

noncomputable section

namespace Cert.RefRow

open Cert.RowMath Cert.Payloads Cert.Launch
open Idealize.ShloMosaic Idealize.ShloMosaic.ValueIdx

/-! ## A descending sort of integers -/

/-- The entry a descending sort puts at position 63. -/
theorem sorted_is64th {n : ℕ} (R : Fin n → Fin n → Bool) (K : ℕ → ℤ) (hR : ∀ a b, R a b = true ↔ K b.val < K a.val) (hn : 63 < n) :
    Is64th K n (K (sortedFrom R ⟨63, hn⟩).val) := by
  have hF : ∀ a b, R a b = false ↔ K a.val ≤ K b.val := fun a b => by
    rw [← Bool.not_eq_true, hR, not_lt]
  have hno : ∀ i j : Fin n, i < j → K (sortedFrom R j).val ≤ K (sortedFrom R i).val := fun i j hij =>
    (hF _ _).mp (sortedFrom_noInversion R R (fun a b h => (hF _ _).mpr (le_of_lt ((hR _ _).mp h))) (fun _ _ h => h)
      (fun a b c h h' => (hF _ _).mpr (le_trans ((hF _ _).mp h) ((hF _ _).mp h'))) i j hij)
  let p : ℕ → ℕ := fun i => if h : i < n then (sortedFrom R ⟨i, h⟩).val else 0
  have hp : ∀ i (h : i < n), p i = (sortedFrom R ⟨i, h⟩).val := fun i h => dif_pos h
  have hinj : ∀ i < n, ∀ j < n, p i = p j → i = j := fun i hi j hj e => by
    rw [hp i hi, hp j hj] at e
    exact congrArg Fin.val (sortedFrom_injective R (Fin.ext e))
  rw [← hp 63 hn]
  constructor
  · unfold above
    rw [Nat.count_eq_card_filter_range]
    refine lt_of_le_of_lt (Finset.card_le_card (t := (Finset.range 63).image p) fun q hq => ?_)
      (lt_of_le_of_lt Finset.card_image_le (by rw [Finset.card_range]; decide))
    obtain ⟨hq1, hq2⟩ := Finset.mem_filter.mp hq
    obtain ⟨i, hi⟩ := sortedFrom_surjective R ⟨q, Finset.mem_range.mp hq1⟩
    have hqi : p i.val = q := (hp i.val i.isLt).trans (congrArg Fin.val hi)
    refine Finset.mem_image.mpr ⟨i.val, Finset.mem_range.mpr ?_, hqi⟩
    by_contra hlt
    rcases Nat.lt_or_eq_of_le (Nat.le_of_not_lt hlt) with h | h
    · have := hno ⟨63, hn⟩ i h
      rw [← hp 63 hn, hi] at this
      exact absurd hq2 (not_lt.mpr this)
    · rw [← hqi, ← h] at hq2
      exact lt_irrefl _ hq2
  · unfold atLeast
    rw [Nat.count_eq_card_filter_range]
    have hc : ((Finset.range 64).image p).card = 64 := by
      rw [Finset.card_image_of_injOn, Finset.card_range]
      intro i hi j hj e
      have hi' : i < 64 := by simpa using hi
      have hj' : j < 64 := by simpa using hj
      exact hinj i (by omega) j (by omega) e
    refine le_trans (le_of_eq hc.symm) (Finset.card_le_card fun q hq => ?_)
    obtain ⟨i, hi, rfl⟩ := Finset.mem_image.mp hq
    have hi' : i < 64 := by simpa using hi
    have hin : i < n := by omega
    refine Finset.mem_filter.mpr ⟨Finset.mem_range.mpr ?_, ?_⟩
    · rw [hp i hin]; exact (sortedFrom R ⟨i, hin⟩).isLt
    · rcases Nat.lt_or_ge i 63 with h | h
      · have := hno ⟨i, hin⟩ ⟨63, hn⟩ h
        rw [← hp 63 hn, ← hp i hin] at this
        exact this
      · have : i = 63 := by omega
        rw [this]

/-! ## The same of a top-k along one axis -/

/-- An entry of a top-k is the operand's at the position the sort names. -/
theorem topK_apply {s t : Shape} {α : Type} (d : Fin s.rank) (gt : α → α → BitVec 1) (x : s.Idx → α) (h : s.Slices (fun _ => 0) t) (j : t.Idx) (k : s.Idx)
    (hk : ∀ a : Fin s.rank, (k a).val = 0 + (j (a.cast h.1.symm)).val) :
    (Host.topK t d.val gt x h).1 j
      = x (k.along d (sortedFrom (fun a b => gt (x (k.along d a)) (x (k.along d b)) == 1#1) (k d))) := by
  unfold Host.topK
  refine (extractStridedSlice_apply (fun _ => 0) _ h j k hk).trans ?_
  unfold Host.sort2
  rw [dif_pos d.isLt]

/-- The order a top-k of words sorts by, on the words' keys. -/
theorem gt_iff (a b : BitVec 32) : (FloatOps.cmpfTotal (F := Bits) (φ := .f32) .gt a b == 1#1) = true ↔ key b < key a := by
  rw [cmpfTotal_f32_eq_cmpi_sortableKey]
  unfold key
  show (BitVec.ofBool ((sortableKey b).slt (sortableKey a)) == 1#1) = true ↔ _
  rw [BitVec.slt_eq_decide]
  by_cases hlt : (sortableKey b).toInt < (sortableKey a).toInt
  · simp [hlt]
  · simp [hlt]

/-! ## The reference's result -/

open Cert.Reference Cert.Reference.Gen

variable (x : S32x1000000.Idx → BitVec 32)

/-- The reference's result as a function of the logits. -/
def refOut : S32x16.Idx → BitVec 32 :=
  broadcastInDim S32x16 ![0, 1] bcast_S32x1_S32x16_0_1 (extractStridedSlice S32x1 ![0, 63]
    ((Host.topK S32x64 1 (FloatOps.cmpfTotal (F := Bits) (φ := .f32) .gt) x sliceFits_S32x1000000_S32x64).1) slices_S32x64_S32x1_0_63)

/-- The reference's word for a row. -/
def refWord (r : Fin 32) : BitVec 32 :=
  (Host.topK S32x64 1 (FloatOps.cmpfTotal (F := Bits) (φ := .f32) .gt) x sliceFits_S32x1000000_S32x64).1 (ix2 r (63 : Fin 64))

theorem refOut_apply (j : S32x16.Idx) : refOut x j = refWord x (j 0) := by
  unfold refOut refWord
  refine (broadcastInDim_apply _ _ _ j (ix2 (j 0) (0 : Fin 1)) fun a => ?_).trans (extractStridedSlice_apply _ _ _ _ _ fun a => ?_)
  · match a with
    | 0 => rfl
    | 1 => rfl
  · match a with
    | 0 => show (j 0).val = 0 + (j 0).val; omega
    | 1 => rfl

theorem along_ix2 (r : Fin 32) (a b : Fin 1000000) : Shape.Idx.along (s := S32x1000000) (ix2 r a) 1 b = ix2 r b := by
  funext c
  match c with
  | 0 => exact Function.update_of_ne (by decide) _ _
  | 1 => exact Function.update_self _ _ _

theorem rowKeys_fin (r : Fin 32) (p : Fin 1000000) : rowKeys x r p.val = key (x (ix2 r p)) := rowKeys_of_lt x r p.val p.isLt

theorem refWord_is64th (r : Fin 32) : Is64th (rowKeys x r) 1000000 (key (refWord x r)) := by
  have e := topK_apply (s := S32x1000000) (t := S32x64) 1 (FloatOps.cmpfTotal (F := Bits) (φ := .f32) .gt) x sliceFits_S32x1000000_S32x64
    (ix2 r (63 : Fin 64)) (ix2 r (⟨63, by omega⟩ : Fin 1000000)) (fun a => by
      match a with
      | 0 => show r.val = 0 + r.val; omega
      | 1 => rfl)
  have h := sorted_is64th (n := 1000000) (fun a b => FloatOps.cmpfTotal (F := Bits) (φ := .f32) .gt
      (x (Shape.Idx.along (s := S32x1000000) (ix2 r (⟨63, by omega⟩ : Fin 1000000)) 1 a))
      (x (Shape.Idx.along (s := S32x1000000) (ix2 r (⟨63, by omega⟩ : Fin 1000000)) 1 b)) == 1#1) (rowKeys x r) (fun a b => by
        refine (gt_iff _ _).trans ?_
        rw [along_ix2, along_ix2, rowKeys_of_lt x r _ a.isLt, rowKeys_of_lt x r _ b.isLt]) (by omega)
  unfold refWord
  have e' := e.trans (congrArg x (along_ix2 r _ _))
  rw [rowKeys_fin] at h
  exact (congrArg key e').symm ▸ h

end Cert.RefRow

end
-- ==== Proof.CallClaims.lean ====
/-
  The claims about the threshold call: it runs and leaves its argument alone, and its result is the reference's, word
  for word.
-/
module
public import proofs.«01_k».proof.Defs
public import proofs.«01_k».proof.Proof.RefRow
@[expose] public section

noncomputable section

namespace Cert.CallClaims

open Cert.RowMath Cert.Payloads Cert.Launch Cert.Tile
open Idealize.ShloMosaic Idealize.ShloMosaic.ValueIdx Idealize.SL.Sem

/-- The reference's words are the ones wanted of the tiles. -/
theorem wanted (m : (ℓ : Loc Cert.Kernel.nD Cert.Kernel.τ Cert.Kernel.sig) → Buf (Elt Bits) ℓ) (d : Dev Cert.Kernel.nD) (L) :
    Wanted d L (mAt m d) (gAt m d) (RefRow.refWord (m (xLoc d))) :=
  ⟨rowKeys (m (xLoc d)) ⟨rowOf L, row_lt L⟩, rowData m d L, fun _ hv => sortableKey_injective (BitVec.eq_of_toInt_eq
    (hv.unique (RefRow.refWord_is64th (m (xLoc d)) ⟨rowOf L, row_lt L⟩)))⟩

theorem frame_kernel : Cert.quiescent_Kernel (hKernel := Cert.Kernel.Gen.facts) := fun m g _ =>
  (θ_run _ _ _).mono (fun _ h => ⟨fun c => (h.1 c).1, h.2⟩)
    (run_main m g (fun d => RefRow.refWord (m (xLoc d))) (wanted m))

theorem frame_reference : Cert.quiescent_Reference (hReference := Cert.Reference.Gen.facts) := fun m g _ =>
  (θ_run Cert.Reference.defs _ _).mono (fun r h => ⟨fun c => (h c).2, sem_eq_zero_of_no_sems (by decide) r.2⟩)
    (Cert.Reference.Value.run (F := Bits) m g)

theorem bitexact : Cert.bitexact_Kernel_Reference (hKernel := Cert.Kernel.Gen.facts) (hReference := Cert.Reference.Gen.facts) :=
  fun m g m' g' _ hm =>
    ⟨fun c => wantBuf c (RefRow.refWord (m (xLoc c))),
      (θ_run _ _ _).mono (fun _ h c => ⟨(h.1 c).2, (h.1 c).1⟩)
        (run_main m g (fun d => RefRow.refWord (m (xLoc d))) (wanted m)),
      (θ_run Cert.Reference.defs _ _).mono (fun _ h c => ⟨(h c).1.trans (by
          rw [hm c]
          exact funext fun j => RefRow.refOut_apply (m (xLoc c)) j), (h c).2⟩)
        (Cert.Reference.Value.run (F := Bits) m' g')⟩

end Cert.CallClaims

end
-- ==== Proof.DenseBlock.lean ====
/-
  What one grid point of the masked softmax writes back, as one function of its three input blocks.
  The body keeps `logits * sigmoid(g - threshold)` in a scratch buffer, stores the exponentials over the output
  block and scales that block in place: two whole-block stores, of which the later stands.
-/
module

public import proofs.«01_k».proof.Proof.Gen.DenseIdeal.Value
public import Idealize.ShloMosaic.Lib.Pipeline.Value

@[expose] public section

noncomputable section

namespace Cert.DenseIdeal.Block

open Cert.DenseIdeal Cert.DenseIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first lane of the thresholds' block, as the body loads it. -/
def thr (x0 : Vec F S1x1x16 .f32) : Vec F S1x1x1 .f32 :=
  View.ld x0 (Rect.unit (s := S1x1x16) ![0, 0, 0] S1x1x1.size inb_S1x1x16_S1x1x1_0_0_0)

/-- The masked logits of the block. -/
def masked (x0 : Vec F S1x1x16 .f32) (x1 x2 : Vec F S1x1000x1000 .f32) : Vec F S1000x1000 .f32 :=
  k0_pay2 (thr x0) x1 x2

/-- The block the point leaves. -/
def G (x0 : Vec F S1x1x16 .f32) (x1 x2 : Vec F S1x1000x1000 .f32) : Vec F S1x1000x1000 .f32 :=
  k0_pay1 (k0_pay4 (k0_pay3 (masked x0 x1 x2) (masked x0 x1 x2))) (k0_pay3 (masked x0 x1 x2) (masked x0 x1 x2))

theorem out_eq (c : Dev nD) (i : grid0.Coords) (a1 : Memref sig .tc .vmem S1x1x16 .f32) (h1 : a1.IsWhole)
    (a2 : Memref sig .tc .vmem S1x1000x1000 .f32) (h2 : a2.IsWhole) (a3 : Memref sig .tc .vmem S1x1000x1000 .f32) (h3 : a3.IsWhole)
    (a4 : Memref sig .tc .vmem S1x1000x1000 .f32) (h4 : a4.IsWhole) (a5 : Memref sig .tc .vmem S1000x1000 .f32) (h5 : a5.IsWhole)
    (x0 : Vec F S1x1x16 .f32) (x1 x2 : Vec F S1x1000x1000 .f32) :
    out0_A_3 c i a1 h1 a2 h2 a3 h3 a4 h4 a5 h5 x0 x1 x2 = G x0 x1 x2 := by
  unfold out0_A_3
  rw [View.read_writes_junk_eq_canon]
  unfold kernelRun0_A
  dsimp only
  sl_unfold_words
  rw [View.canon_cons_unit_zero (S := S1x1000x1000) hz3]
  simp only [View.readCov_unit_zero (S := S1x1000x1000) _ hz3, View.readCov_unit_zero (S := S1000x1000) _ hz2, View.readAt_eq_ld, h1.read_unread, h2.read_unread, h3.read_unread, View.ld_unit_zero (S := S1x1000x1000) hz3]
  rfl

end Cert.DenseIdeal.Block

end
-- ==== Proof.DenseArray.lean ====
/-
  What the dense call's program leaves, as whole arrays: the Gumbel logits and thresholds the host hands the call, and
  the call's result put together from its rows.
-/
module

public import proofs.«01_k».proof.Proof.DenseBlock
public import Idealize.ShloMosaic.Lib.Pointwise

@[expose] public section

noncomputable section

namespace Cert.DenseIdeal.Block

open Cert.DenseIdeal Cert.DenseIdeal.Gen Idealize.ShloMosaic Idealize.ShloMosaic.TcCoe Idealize.SL.Sem Idealize.ShloMosaic.StableHlo
open Idealize.ShloMosaic.Pipeline (Dat)

variable {F : FTy → Type} [FloatOps F]
variable (m : (ℓ : Loc nD τ sig) → Buf (Elt F) ℓ)

/-- The Gumbel logits of the logits and the uniform samples, as the host computes them. -/
def gumbel (l u : FVec F S32x1000000 .f32) : FVec F S32x1000000 .f32 :=
  addf l (Host.negf (Host.log (addf (Host.negf (Host.log (addf u
    (broadcastInDim S32x1000000 ![] bcast_S_S32x1000000 (constant S_ .f32 0x2EDBE6FF#32)))))
    (broadcastInDim S32x1000000 ![] bcast_S_S32x1000000 (constant S_ .f32 0x2EDBE6FF#32)))))

theorem V_v9 (c : Dev nD) : (V m c main_v9 : Vec F S32x1x16 .f32)
    = shapeCast S32x1x16 (m ((c : Thread nD τ).loc main_arg2)) shapeCasts_S32x16_S32x1x16 := by
  show StableHlo.after hostOps0 _ _ = _
  after_results_simp <;> rfl

theorem V_v10 (c : Dev nD) : (V m c main_v10 : Vec F S32x1000x1000 .f32)
    = shapeCast S32x1000x1000 (m ((c : Thread nD τ).loc main_arg0)) shapeCasts_S32x1000000_S32x1000x1000 := by
  show StableHlo.after hostOps0 _ _ = _
  after_results_simp <;> rfl

theorem V_v11 (c : Dev nD) : (V m c main_v11 : Vec F S32x1000x1000 .f32)
    = shapeCast S32x1000x1000 (gumbel (m ((c : Thread nD τ).loc main_arg0)) (m ((c : Thread nD τ).loc main_arg1))) shapeCasts_S32x1000000_S32x1000x1000 := by
  show StableHlo.after hostOps0 _ _ = _
  unfold gumbel
  after_results_simp <;> rfl

theorem idx3 : ∀ t : Fin cfg0.N, win0_3.index t 0 = t.val ∧ win0_3.index t 1 = 0 ∧ win0_3.index t 2 = 0 :=
  (by decide +kernel : ∀ t : Fin grid0.N, _)
theorem idx2 : ∀ t : Fin cfg0.N, win0_2.index t 0 = t.val ∧ win0_2.index t 1 = 0 ∧ win0_2.index t 2 = 0 :=
  (by decide +kernel : ∀ t : Fin grid0.N, _)
theorem idx1 : ∀ t : Fin cfg0.N, win0_1.index t 0 = t.val ∧ win0_1.index t 1 = 0 ∧ win0_1.index t 2 = 0 :=
  (by decide +kernel : ∀ t : Fin grid0.N, _)
theorem idx0 : ∀ t : Fin cfg0.N, win0_0.index t 0 = t.val ∧ win0_0.index t 1 = 0 ∧ win0_0.index t 2 = 0 :=
  (by decide +kernel : ∀ t : Fin grid0.N, _)

/-- The grid point of a row. -/
def pt (r : Fin 32) : Fin cfg0.N := ⟨r.val, lt_of_lt_of_eq r.isLt N_0.symm⟩

theorem emb3 (r : Fin 32) (a b : Fin 1000) : ((cfg0.win 3).blk (pt r)).view.emb (ix3 0 a b : S1x1000x1000.Idx) = (ix3 r a b : S32x1000x1000.Idx) := by
  have e := idx3 (pt r)
  funext q
  apply Fin.ext
  match q with
  | ⟨0, _⟩ => show win0_3.index (pt r) 0 * 1 + 0 = r.val; rw [e.1]; simp [pt]
  | ⟨1, _⟩ => show win0_3.index (pt r) 1 * 1000 + 1 * a.val = a.val; rw [e.2.1]; omega
  | ⟨2, _⟩ => show win0_3.index (pt r) 2 * 1000 + 1 * b.val = b.val; rw [e.2.2]; omega

theorem blk1 (c : Dev nD) (r : Fin 32) : (iblk m c 1 (pt r) : Vec F S1x1000x1000 .f32)
    = fun y => shapeCast S32x1000x1000 (m ((c : Thread nD τ).loc main_arg0)) shapeCasts_S32x1000000_S32x1000x1000 (ix3 r (y 1) (y 2)) := by
  have e := idx1 (pt r)
  funext y
  rw [← V_v10]
  refine congrArg (V m c main_v10) (funext fun q => Fin.ext ?_)
  have h0 : (y 0).val < 1 := (y 0).isLt
  match q with
  | ⟨0, _⟩ => show win0_1.index (pt r) 0 * 1 + 1 * (y 0).val = r.val; rw [e.1]; simp only [pt]; omega
  | ⟨1, _⟩ => show win0_1.index (pt r) 1 * 1000 + 1 * (y 1).val = (y 1).val; rw [e.2.1]; omega
  | ⟨2, _⟩ => show win0_1.index (pt r) 2 * 1000 + 1 * (y 2).val = (y 2).val; rw [e.2.2]; omega

theorem blk2 (c : Dev nD) (r : Fin 32) : (iblk m c 2 (pt r) : Vec F S1x1000x1000 .f32)
    = fun y => shapeCast S32x1000x1000 (gumbel (m ((c : Thread nD τ).loc main_arg0)) (m ((c : Thread nD τ).loc main_arg1))) shapeCasts_S32x1000000_S32x1000x1000 (ix3 r (y 1) (y 2)) := by
  have e := idx2 (pt r)
  funext y
  rw [← V_v11]
  refine congrArg (V m c main_v11) (funext fun q => Fin.ext ?_)
  have h0 : (y 0).val < 1 := (y 0).isLt
  match q with
  | ⟨0, _⟩ => show win0_2.index (pt r) 0 * 1 + 1 * (y 0).val = r.val; rw [e.1]; simp only [pt]; omega
  | ⟨1, _⟩ => show win0_2.index (pt r) 1 * 1000 + 1 * (y 1).val = (y 1).val; rw [e.2.1]; omega
  | ⟨2, _⟩ => show win0_2.index (pt r) 2 * 1000 + 1 * (y 2).val = (y 2).val; rw [e.2.2]; omega

theorem blk0 (c : Dev nD) (r : Fin 32) : (iblk m c 0 (pt r) : Vec F S1x1x16 .f32)
    = fun y => shapeCast S32x1x16 (m ((c : Thread nD τ).loc main_arg2)) shapeCasts_S32x16_S32x1x16 (ix3 r 0 (y 2)) := by
  have e := idx0 (pt r)
  funext y
  rw [← V_v9]
  refine congrArg (V m c main_v9) (funext fun q => Fin.ext ?_)
  have h0 : (y 0).val < 1 := (y 0).isLt
  have h1 : (y 1).val < 1 := (y 1).isLt
  match q with
  | ⟨0, _⟩ => show win0_0.index (pt r) 0 * 1 + 1 * (y 0).val = r.val; rw [e.1]; simp only [pt]; omega
  | ⟨1, _⟩ => show win0_0.index (pt r) 1 * 1 + 1 * (y 1).val = 0; rw [e.2.1]; omega
  | ⟨2, _⟩ => show win0_0.index (pt r) 2 * 16 + 1 * (y 2).val = (y 2).val; rw [e.2.2]; omega

/-- The result array at an index: the block of its row, at its place in the block. -/
theorem final (c : Dev nD) (r : Fin 32) (a b : Fin 1000) :
    (dats m 0 c).arrAt 3 cfg0.N (ix3 r a b : S32x1000x1000.Idx)
      = G (iblk m c 0 (pt r)) (iblk m c 1 (pt r)) (iblk m c 2 (pt r)) (ix3 0 a b) := by
  have h := congrFun (Value.blocks3 m c (pt r) (flush0_3 _)) (ix3 0 a b : S1x1000x1000.Idx)
  rw [Value.flushed3_A, out_eq] at h
  rw [← emb3]
  exact h

end Cert.DenseIdeal.Block

end
-- ==== Proof.SoftmaxMath.lean ====
/-
  The arithmetic of a softmax row on the extended reals: at finite entries the sum of the exponentials is not zero,
  so scaling by its reciprocal is dividing by it; the largest entry and the sum do not depend on how the row is cut.
-/
module

public import Idealize.ShloMosaic.Lib.Pointwise
public import Idealize.ShloMosaic.Lib.IdealHost
public import Idealize.ShloMosaic.PureOps.Ideal.Laws

@[expose] public section

noncomputable section

namespace Cert.SoftmaxMath

open Idealize.ShloMosaic

theorem neg_inf : Ideal.ofBits .f32 0xFF800000#32 = ⊥ := by
  simp [Ideal.ofBits, Ideal.ieee]

theorem pos_inf : Ideal.ofBits .f32 0x7F800000#32 = ⊤ := by
  simp [Ideal.ofBits, Ideal.ieee]

theorem div_one (x : EReal) : Ideal.div x 1 = x := by
  unfold Ideal.div; rw [if_neg one_ne_zero, ← EReal.coe_one, ← EReal.coe_inv, inv_one, EReal.coe_one, mul_one]

theorem exp_nonneg (x : EReal) : 0 ≤ Ideal.exp x := by
  induction x using EReal.rec with
  | bot => simp
  | top => simp
  | coe r => rw [Ideal.exp_coe]; exact_mod_cast (Real.exp_pos r).le

/-- The sigmoid is a real number. -/
theorem logistic_real (x : EReal) : ∃ r : ℝ, Ideal.logistic x = r := by
  induction x using EReal.rec with
  | bot => exact ⟨0, by simp⟩
  | top => exact ⟨1, by simp⟩
  | coe r => exact ⟨_, Ideal.logistic_coe r⟩

/-- A finite number times a sigmoid is a real number. -/
theorem mul_logistic_real {l : EReal} (h : ∃ r : ℝ, l = r) (x : EReal) : ∃ r : ℝ, l * Ideal.logistic x = r := by
  obtain ⟨a, rfl⟩ := h
  obtain ⟨b, hb⟩ := logistic_real x
  exact ⟨a * b, by rw [hb, EReal.coe_mul]⟩

/-- The largest entry of a nonempty family is one of its entries. -/
theorem exists_eq_fold_max {ι : Type} [Fintype ι] [Nonempty ι] (f : ι → EReal) :
    ∃ i, f i = Finset.univ.fold max ⊥ f := by
  obtain ⟨i, -, h⟩ := Finset.exists_mem_eq_sup Finset.univ Finset.univ_nonempty f
  exact ⟨i, h.symm⟩

/-- The largest entry of a family re-indexed. -/
theorem fold_max_equiv {ι κ : Type} [Fintype ι] [Fintype κ] (e : ι ≃ κ) (f : κ → EReal) :
    Finset.univ.fold max ⊥ (fun i => f (e i)) = Finset.univ.fold max ⊥ f := by
  apply le_antisymm
  · rw [Finset.fold_max_le]
    exact ⟨bot_le, fun i _ => (Finset.le_fold_max _).mpr (Or.inr ⟨e i, Finset.mem_univ _, le_rfl⟩)⟩
  · rw [Finset.fold_max_le]
    exact ⟨bot_le, fun i _ => (Finset.le_fold_max _).mpr (Or.inr ⟨e.symm i, Finset.mem_univ _, by simp⟩)⟩

/-- The sum of the exponentials of a finite row, shifted by its largest entry, is not zero. -/
theorem sum_exp_ne_zero {ι : Type} [Fintype ι] [Nonempty ι] (f : ι → EReal) (hf : ∀ i, ∃ r : ℝ, f i = r) :
    ∑ i, Ideal.exp (f i - Finset.univ.fold max ⊥ f) ≠ 0 := by
  obtain ⟨i, hi⟩ := exists_eq_fold_max f
  have h1 : Ideal.exp (f i - Finset.univ.fold max ⊥ f) = 1 := by
    rw [← hi]
    obtain ⟨r, hr⟩ := hf i
    rw [hr, ← EReal.coe_sub, sub_self, Ideal.exp_coe, Real.exp_zero, EReal.coe_one]
  have h2 : Ideal.exp (f i - Finset.univ.fold max ⊥ f) ≤ ∑ i, Ideal.exp (f i - Finset.univ.fold max ⊥ f) :=
    Finset.single_le_sum (f := fun i => Ideal.exp (f i - Finset.univ.fold max ⊥ f)) (fun i _ => exp_nonneg _) (Finset.mem_univ i)
  intro h
  rw [h1, h] at h2
  exact absurd h2 (by simp)

/-- A row of 1000000 entries as 1000 by 1000, row-major. -/
def cut : Fin 1000 × Fin 1000 ≃ Fin 1000000 where
  toFun p := ⟨p.1.val * 1000 + p.2.val, by have := p.1.isLt; have := p.2.isLt; omega⟩
  invFun k := (⟨k.val / 1000, by have := k.isLt; omega⟩, ⟨k.val % 1000, by omega⟩)
  left_inv p := by ext <;> simp <;> have := p.2.isLt <;> omega
  right_inv k := by ext; simp; omega

theorem cut_apply (a b : Fin 1000) :
    cut (a, b) = ⟨a.val * 1000 + b.val, by have := a.isLt; have := b.isLt; omega⟩ := rfl

/-- The softmax of a finite row read in two dimensions with a reciprocal, and in one with a quotient. -/
theorem softmax_eq (f : Fin 1000000 → EReal) (hf : ∀ k, ∃ r : ℝ, f k = r) (a b : Fin 1000) :
    Ideal.exp (f (cut (a, b)) - Finset.univ.fold max ⊥ fun p => f (cut p))
        * Ideal.div 1 (∑ a : Fin 1000, ∑ b : Fin 1000, Ideal.exp (f (cut (a, b)) - Finset.univ.fold max ⊥ fun p => f (cut p)))
      = Ideal.div (Ideal.exp (f (cut (a, b)) - Finset.univ.fold max ⊥ f)) (∑ k, Ideal.exp (f k - Finset.univ.fold max ⊥ f)) := by
  rw [fold_max_equiv cut f, ← Fintype.sum_prod_type', Equiv.sum_comp cut fun k => Ideal.exp (f k - Finset.univ.fold max ⊥ f),
    Ideal.mul_one_div (sum_exp_ne_zero f hf)]

/-- A row's maximum on the host, as the largest entry of the row; stated at any extents. -/
theorem reduce_max {n0 n1 : Nat} {t u : Shape} (z : FVec Ideal (⟨2, ![n0, n1]⟩ : Shape) .f32) (b : FVec Ideal u .f32)
    (h : (⟨2, ![n0, n1]⟩ : Shape).ReducesTo [1] t) (hu : 0 < u.numel) (hb : b (Shape.Idx.first hu) = (⊥ : EReal)) (j : t.Idx) (r : Fin n0)
    (hr : (j ⟨0, h.lt_r2_a1_0⟩).val = r.val) :
    Host.reduce FloatOps.maximumf z b h hu j = Finset.univ.fold max ⊥ fun k => z (ix2 r k) := by
  rw [Host.reduce_eq_fold, Shape.ReducesTo.fold_fiber_r2_a1 h j, hb]
  have e : (⟨(j ⟨0, h.lt_r2_a1_0⟩).val, Shape.coordLt (j ⟨0, h.lt_r2_a1_0⟩) h.size_r2_a1_0⟩ : Fin n0) = r := Fin.ext hr
  rw [e]
  rfl

/-- A number whose absolute value is below +∞ is real. -/
theorem real_of_abs_lt {x : EReal} (h : max x (-x) < ⊤) : ∃ r : ℝ, x = r := by
  induction x using EReal.rec with
  | bot => simp at h
  | top => simp at h
  | coe r => exact ⟨r, rfl⟩

end Cert.SoftmaxMath

end
-- ==== Proof.DenseIdealValue.lean ====
/-
  The masked softmax's result at an index, on the extended reals: the row's masked logits through
  `exp (w - max) * (1 / sum)`.
-/
module

public import proofs.«01_k».proof.Proof.DenseArray
public import proofs.«01_k».proof.Proof.SoftmaxMath
public import Idealize.ShloMosaic.Lib.Pointwise
public import Idealize.ShloMosaic.Lib.IdealHost
public import Idealize.ShloMosaic.PureOps.Ideal.Laws

@[expose] public section

set_option maxRecDepth 16384

noncomputable section

namespace Cert.DenseIdeal.Block

open Cert.DenseIdeal Cert.DenseIdeal.Gen Idealize.ShloMosaic Idealize.ShloMosaic.TcCoe Idealize.SL.Sem Idealize.ShloMosaic.StableHlo

/-- The masked logit at a place of a block. -/
def w (x0 : Vec Ideal S1x1x16 .f32) (x1 x2 : Vec Ideal S1x1000x1000 .f32) (a b : Fin 1000) : EReal :=
  x1 (ix3 0 a b) * Ideal.logistic (x2 (ix3 0 a b) - x0 (ix3 0 0 0))

theorem thr_apply (x0 : Vec Ideal S1x1x16 .f32) : thr x0 (ix3 0 0 0) = x0 (ix3 0 0 0) :=
  congrArg x0 (funext fun q => by match q with | ⟨0, _⟩ => rfl | ⟨1, _⟩ => rfl | ⟨2, _⟩ => rfl)

theorem masked_apply (x0 : Vec Ideal S1x1x16 .f32) (x1 x2 : Vec Ideal S1x1000x1000 .f32) (a b : Fin 1000) :
    masked x0 x1 x2 (ix2 a b) = w x0 x1 x2 a b := by
  unfold masked w
  rw [← thr_apply x0]
  pointwise [k0_pay2]

theorem pay3_apply (s : Vec Ideal S1000x1000 .f32) (a b : Fin 1000) :
    k0_pay3 s s (ix3 0 a b) = Ideal.exp (s (ix2 a b) - Finset.univ.fold max ⊥ fun k : Fin 1000 × Fin 1000 => s (ix2 k.1 k.2)) := by
  pointwise [k0_pay3]
  rw [SoftmaxMath.neg_inf]

theorem pay4_apply (s : Vec Ideal S1x1000x1000 .f32) :
    k0_pay4 s = ∑ a : Fin 1000, ∑ b : Fin 1000, s (ix3 0 a b) := by
  pointwise [k0_pay4]

theorem pay1_apply (z : EReal) (s : Vec Ideal S1x1000x1000 .f32) (a b : Fin 1000) :
    k0_pay1 (F := Ideal) z s (ix3 0 a b) = s (ix3 0 a b) * Ideal.div 1 z := by
  pointwise [k0_pay1]

/-- What a point writes, at a place of its block. -/
theorem G_apply (x0 : Vec Ideal S1x1x16 .f32) (x1 x2 : Vec Ideal S1x1000x1000 .f32) (f : Fin 1000000 → EReal)
    (hf : ∀ a b, w x0 x1 x2 a b = f (SoftmaxMath.cut (a, b))) (a b : Fin 1000) :
    G x0 x1 x2 (ix3 0 a b) = Ideal.exp (f (SoftmaxMath.cut (a, b)) - Finset.univ.fold max ⊥ fun p => f (SoftmaxMath.cut p))
        * Ideal.div 1 (∑ a : Fin 1000, ∑ b : Fin 1000,
            Ideal.exp (f (SoftmaxMath.cut (a, b)) - Finset.univ.fold max ⊥ fun p => f (SoftmaxMath.cut p))) := by
  unfold G
  rw [pay1_apply, pay4_apply]
  simp only [pay3_apply, masked_apply, hf]

variable (m : (ℓ : Loc nD τ sig) → Buf (Elt Ideal) ℓ)

/-- A row's masked logits, from the arguments. -/
def row (l u : FVec Ideal S32x1000000 .f32) (t : FVec Ideal S32x16 .f32) (r : Fin 32) (k : Fin 1000000) : EReal :=
  l (ix2 r k) * Ideal.logistic (l (ix2 r k) + -Ideal.log (-Ideal.log (u (ix2 r k) + Ideal.ofBits FTy.f32 786163455#32)
    + Ideal.ofBits FTy.f32 786163455#32) - t (ix2 r 0))

/-- The kernel's result array at an index. -/
theorem final_apply (c : Dev nD) (r : Fin 32) (a b : Fin 1000) :
    (dats m 0 c).arrAt 3 cfg0.N (ix3 r a b : S32x1000x1000.Idx)
      = Ideal.exp (row (m ((c : Thread nD τ).loc main_arg0)) (m ((c : Thread nD τ).loc main_arg1)) (m ((c : Thread nD τ).loc main_arg2)) r (SoftmaxMath.cut (a, b)) - Finset.univ.fold max ⊥ fun p => row (m ((c : Thread nD τ).loc main_arg0)) (m ((c : Thread nD τ).loc main_arg1)) (m ((c : Thread nD τ).loc main_arg2)) r (SoftmaxMath.cut p))
        * Ideal.div 1 (∑ a : Fin 1000, ∑ b : Fin 1000,
            Ideal.exp (row (m ((c : Thread nD τ).loc main_arg0)) (m ((c : Thread nD τ).loc main_arg1)) (m ((c : Thread nD τ).loc main_arg2)) r (SoftmaxMath.cut (a, b)) - Finset.univ.fold max ⊥ fun p => row (m ((c : Thread nD τ).loc main_arg0)) (m ((c : Thread nD τ).loc main_arg1)) (m ((c : Thread nD τ).loc main_arg2)) r (SoftmaxMath.cut p))) := by
  rw [final]
  refine G_apply _ _ _ _ (fun a b => ?_) a b
  rw [blk0, blk1, blk2]
  rw [SoftmaxMath.cut_apply]
  unfold w gumbel row
  pointwise

end Cert.DenseIdeal.Block

end
-- ==== Proof.SoftmaxRow.lean ====
/-
  The reference's result at an index, on the extended reals.
-/
module

public import proofs.«01_k».proof.Proof.Gen.SoftmaxIdeal.Run
public import proofs.«01_k».proof.Proof.SoftmaxMath
public import Idealize.ShloMosaic.Lib.Pointwise
public import Idealize.ShloMosaic.Lib.IdealHost
public import Idealize.ShloMosaic.PureOps.Ideal.Laws

@[expose] public section

set_option maxRecDepth 16384

noncomputable section

namespace Cert.SoftmaxIdeal.Row

open Cert.SoftmaxIdeal Cert.SoftmaxIdeal.Gen Idealize.ShloMosaic Idealize.ShloMosaic.TcCoe Idealize.SL.Sem Idealize.ShloMosaic.StableHlo

/-- A row's masked logits, from the arguments. -/
def row (l u : FVec Ideal S32x1000000 .f32) (t : FVec Ideal S32x16 .f32) (r : Fin 32) (k : Fin 1000000) : EReal :=
  l (ix2 r k) * Ideal.logistic (l (ix2 r k) + -Ideal.log (-Ideal.log (u (ix2 r k) + Ideal.ofBits FTy.f32 786163455#32)
    + Ideal.ofBits FTy.f32 786163455#32) - t (ix2 r 0))

/-- The masked logits of every row, as the host computes them. -/
def masked (l u : FVec Ideal S32x1000000 .f32) (t : FVec Ideal S32x16 .f32) : FVec Ideal S32x1000000 .f32 :=
  Host.divf (mulf l (Host.divf (broadcastInDim S32x1000000 ![] bcast_S_S32x1000000 (constant S_ .f32 0x3F800000#32)) (addf (broadcastInDim S32x1000000 ![] bcast_S_S32x1000000 (constant S_ .f32 0x3F800000#32)) (Host.exp (Host.negf (Host.divf (subf (addf l (Host.negf (Host.log (addf (Host.negf (Host.log (addf u (broadcastInDim S32x1000000 ![] bcast_S_S32x1000000 (constant S_ .f32 0x2EDBE6FF#32))))) (broadcastInDim S32x1000000 ![] bcast_S_S32x1000000 (constant S_ .f32 0x2EDBE6FF#32)))))) (broadcastInDim S32x1000000 ![0, 1] bcast_S32x1_S32x1000000_0_1 (extractStridedSlice S32x1 ![0, 0] t slices_S32x16_S32x1_0_0))) (broadcastInDim S32x1000000 ![] bcast_S_S32x1000000 (constant S_ .f32 0x3F800000#32)))))))) (broadcastInDim S32x1000000 ![] bcast_S_S32x1000000 (constant S_ .f32 0x3F800000#32))

/-- A vector of one entry for each row, along the rows. -/
def along (v : FVec Ideal S32 .f32) : FVec Ideal S32x1000000 .f32 :=
  broadcastInDim S32x1000000 ![0, 1] bcast_S32x1_S32x1000000_0_1 (broadcastInDim S32x1 ![0] bcast_S32_S32x1_0 v)

/-- The largest entry of each row. -/
def largest (z : FVec Ideal S32x1000000 .f32) : FVec Ideal S32 .f32 :=
  maximumf (broadcastInDim S32 ![] bcast_S_S32 (constant S_ .f32 0xFF800000#32)) (Host.reduce FloatOps.maximumf z (constant S_ .f32 0xFF800000#32) reducesTo_S32x1000000_S32_d1 h_S_)

/-- The exponentials, shifted by the largest entry. -/
def exps (z : FVec Ideal S32x1000000 .f32) : FVec Ideal S32x1000000 .f32 := Host.exp (subf z (along (largest z)))

/-- The sum of each row. -/
def sums (e : FVec Ideal S32x1000000 .f32) : FVec Ideal S32 .f32 :=
  Host.reduceAdd e (constant S_ .f32 0x00000000#32) reducesTo_S32x1000000_S32_d1 h_S_

/-- The softmax of every row. -/
def soft (z : FVec Ideal S32x1000000 .f32) : FVec Ideal S32x1000000 .f32 := Host.divf (exps z) (along (sums (exps z)))

theorem out_eq (m : (ℓ : Loc nD τ sig) → Buf (Elt Ideal) ℓ) (c : Dev nD) :
    (Value.res_out0 m c : S32x1000x1000.Idx → EReal) = shapeCast S32x1000x1000
      (soft (masked (m ((c : Thread nD τ).loc main_arg0)) (m ((c : Thread nD τ).loc main_arg1)) (m ((c : Thread nD τ).loc main_arg2))))
      shapeCasts_S32x1000000_S32x1000x1000 := by
  unfold Value.res_out0 Value.res_main_v34 soft exps sums largest along masked
  rfl

theorem masked_apply (l u : FVec Ideal S32x1000000 .f32) (t : FVec Ideal S32x16 .f32) (r : Fin 32) (k : Fin 1000000) :
    masked l u t (ix2 r k) = row l u t r k := by
  unfold masked row Ideal.logistic
  pointwise
  simp only [SoftmaxMath.div_one]

theorem along_apply (v : FVec Ideal S32 .f32) (r : Fin 32) (k : Fin 1000000) : along v (ix2 r k) = v (ix1 r) := by
  unfold along
  pointwise

theorem init_eq : (constant S_ .f32 0xFF800000#32 : FVec Ideal S_ .f32) (Shape.Idx.first h_S_) = (⊥ : EReal) := by
  show Ideal.ofBits .f32 0xFF800000#32 = ⊥
  exact SoftmaxMath.neg_inf

theorem reduce_apply (z : FVec Ideal S32x1000000 .f32) (r : Fin 32) :
    Host.reduce FloatOps.maximumf z (constant S_ .f32 0xFF800000#32) reducesTo_S32x1000000_S32_d1 h_S_ (ix1 r)
      = Finset.univ.fold max ⊥ fun k => z (ix2 r k) := by
  exact SoftmaxMath.reduce_max z (constant S_ .f32 0xFF800000#32) reducesTo_S32x1000000_S32_d1 h_S_ init_eq (ix1 r) r rfl

theorem largest_apply (z : FVec Ideal S32x1000000 .f32) (r : Fin 32) :
    largest z (ix1 r) = Finset.univ.fold max ⊥ fun k => z (ix2 r k) := by
  unfold largest
  rw [maximumf_apply, reduce_apply, Ideal.maximumf_def]
  exact (congrArg (fun x => max x _) SoftmaxMath.neg_inf).trans (max_eq_right bot_le)

theorem sums_apply (e : FVec Ideal S32x1000000 .f32) (r : Fin 32) : sums e (ix1 r) = ∑ k, e (ix2 r k) := by
  unfold sums
  pointwise

theorem soft_apply (z : FVec Ideal S32x1000000 .f32) (r : Fin 32) (k : Fin 1000000) :
    soft z (ix2 r k) = Ideal.div (Ideal.exp (z (ix2 r k) - Finset.univ.fold max ⊥ fun k => z (ix2 r k)))
      (∑ k, Ideal.exp (z (ix2 r k) - Finset.univ.fold max ⊥ fun k => z (ix2 r k))) := by
  have he : ∀ k, exps z (ix2 r k) = Ideal.exp (z (ix2 r k) - Finset.univ.fold max ⊥ fun k => z (ix2 r k)) := fun k => by
    unfold exps
    rw [Host.exp_apply, subf_apply, along_apply, largest_apply]
    rfl
  unfold soft
  rw [Host.divf_apply, Ideal.hostDivf_def, along_apply, sums_apply, he]
  rw [Finset.sum_congr rfl fun k _ => he k]

theorem out_apply (m : (ℓ : Loc nD τ sig) → Buf (Elt Ideal) ℓ) (c : Dev nD) (r : Fin 32) (a b : Fin 1000) :
    (Value.res_out0 m c : S32x1000x1000.Idx → EReal) (ix3 r a b)
      = Ideal.div (Ideal.exp (row (m ((c : Thread nD τ).loc main_arg0)) (m ((c : Thread nD τ).loc main_arg1)) (m ((c : Thread nD τ).loc main_arg2)) r (SoftmaxMath.cut (a, b))
          - Finset.univ.fold max ⊥ (row (m ((c : Thread nD τ).loc main_arg0)) (m ((c : Thread nD τ).loc main_arg1)) (m ((c : Thread nD τ).loc main_arg2)) r)))
        (∑ k, Ideal.exp (row (m ((c : Thread nD τ).loc main_arg0)) (m ((c : Thread nD τ).loc main_arg1)) (m ((c : Thread nD τ).loc main_arg2)) r k
          - Finset.univ.fold max ⊥ (row (m ((c : Thread nD τ).loc main_arg0)) (m ((c : Thread nD τ).loc main_arg1)) (m ((c : Thread nD τ).loc main_arg2)) r))) := by
  rw [out_eq]
  have hc (x : FVec Ideal S32x1000000 .f32) : shapeCast S32x1000x1000 x shapeCasts_S32x1000000_S32x1000x1000 (ix3 r a b) = x (ix2 r (SoftmaxMath.cut (a, b))) := by
    rw [SoftmaxMath.cut_apply]
    pointwise
  rw [hc, soft_apply]
  simp only [masked_apply]

end Cert.SoftmaxIdeal.Row

end
-- ==== Proof.DenseClaims.lean ====
/-
  The claims about the masked softmax: it runs to its end from any memory, and on the extended reals, at finite
  logits, its result is the reference's.
-/
module

public import proofs.«01_k».proof.Defs
public import proofs.«01_k».proof.Proof.DenseIdealValue
public import proofs.«01_k».proof.Proof.SoftmaxRow
public import proofs.«01_k».proof.Proof.Gen.Dense.Frame
public import proofs.«01_k».proof.Proof.Gen.Pre_finite_logits
public import Idealize.ShloMosaic.Lib.Quiescent

@[expose] public section

noncomputable section

namespace Cert.Proof.DenseClaims

open Idealize.ShloMosaic Idealize.ShloMosaic.TcCoe Idealize.SL.Sem

theorem frame_dense : Cert.quiescent_Dense := fun m ρ _ => Cert.Dense.Gen.frame m ρ
theorem frame_dense_ideal : Cert.quiescent_DenseIdeal := fun m ρ _ => Cert.DenseIdeal.Gen.frame m ρ
theorem frame_dense_ideal_pre : Cert.quiescent_DenseIdeal_pre_finite_logits := fun m ρ _ => Cert.DenseIdeal.Gen.frame m ρ
theorem frame_softmax : Cert.quiescent_SoftmaxIdeal := fun m ρ _ =>
  (θ_run Cert.SoftmaxIdeal.defs _ _).mono (fun r h => ⟨fun c => (h c).2,
      Idealize.ShloMosaic.sem_eq_zero_of_no_sems (by decide) r.2⟩)
    (Cert.SoftmaxIdeal.Value.run (F := Ideal) m ρ)
theorem frame_softmax_pre : Cert.quiescent_SoftmaxIdeal_pre_finite_logits := fun m ρ _ => frame_softmax m ρ trivial

theorem preserves : Cert.preserves_Dense_DenseIdeal := trivial

/-- Under the precondition every masked logit is real. -/
theorem row_real (l u : FVec Ideal Cert.DenseIdeal.S32x1000000 .f32) (t : FVec Ideal Cert.DenseIdeal.S32x16 .f32)
    (h : Cert.Pre_finite_logits.fn (F := Ideal) l u t = fun _ => 1#1) (r : Fin 32) (k : Fin 1000000) :
    ∃ x : ℝ, Cert.DenseIdeal.Block.row l u t r k = x := by
  refine SoftmaxMath.mul_logistic_real (SoftmaxMath.real_of_abs_lt ?_) _
  have e := congrFun h (ix2 r k)
  have e' : Ideal.cmp .olt (max (l (ix2 r k)) (-(l (ix2 r k)))) (Ideal.ofBits .f32 0x7F800000#32) = 1#1 := e
  rw [SoftmaxMath.pos_inf] at e'
  by_contra hc
  simp [Ideal.cmp, hc] at e'

theorem algebraic : Cert.algebraic_DenseIdeal_SoftmaxIdeal_pre_finite_logits := by
  intro m ρ m' ρ' hpre hagree
  refine ⟨fun c => (Cert.DenseIdeal.Gen.dats m 0 c).arrAt 3 Cert.DenseIdeal.cfg0.N, ?_, ?_⟩
  · exact Cert.DenseIdeal.Value.run_blocks (F := Ideal) m ρ
  refine (θ_run Cert.SoftmaxIdeal.defs _ _).mono (fun _ h c => ⟨(h c).1.trans ?_, (h c).2⟩)
    (Cert.SoftmaxIdeal.Value.run (F := Ideal) m' ρ')
  funext j
  obtain ⟨r, a, b, rfl⟩ : ∃ (r : Fin 32) (a b : Fin 1000), j = ix3 r a b := ⟨j 0, j 1, j 2, eq_ix3 j⟩
  refine (Cert.SoftmaxIdeal.Row.out_apply m' c r a b).trans ?_
  refine Eq.trans ?_ (Cert.DenseIdeal.Block.final_apply m c r a b).symm
  rw [(hagree c).1, (hagree c).2.1, (hagree c).2.2]
  exact (SoftmaxMath.softmax_eq _ (row_real _ _ _ (hpre c) r) a b).symm

end Cert.Proof.DenseClaims

end
-- ==== Proof.lean ====
module

public import proofs.«01_k».proof.Defs
public import proofs.«01_k».proof.Proof.Gen.Kernel
public import proofs.«01_k».proof.Proof.Gen.Kernel.Skeleton
public import proofs.«01_k».proof.Proof.Gen.Reference
public import proofs.«01_k».proof.Proof.Gen.Reference.Run
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseIdeal.Value
public import proofs.«01_k».proof.Proof.Gen.SoftmaxIdeal
public import proofs.«01_k».proof.Proof.Gen.SoftmaxIdeal.Run
public import proofs.«01_k».proof.Proof.Gen.Pre_finite_logits
public import proofs.«01_k».proof.Proof.CallClaims
public import proofs.«01_k».proof.Proof.DenseClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.Reference.Gen.facts, Cert.Dense.Gen.facts, Cert.DenseIdeal.Gen.facts, Cert.SoftmaxIdeal.Gen.facts, Cert.Pre_finite_logits.Gen.facts,
  CallClaims.frame_kernel, CallClaims.frame_reference, DenseClaims.frame_dense, DenseClaims.frame_dense_ideal, DenseClaims.frame_dense_ideal_pre,
  DenseClaims.frame_softmax, DenseClaims.frame_softmax_pre, CallClaims.bitexact, DenseClaims.preserves, DenseClaims.algebraic⟩

end Cert.Proof

end
